-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale" .f32 0x40E6D4CA#32 (((67108864 / 13421773) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2048x128 : Shape := ⟨2, ![2048, 128]⟩
abbrev S2048 : Shape := ⟨1, ![2048]⟩
abbrev S_ : Shape := ⟨0, ![]⟩
abbrev S2047 : Shape := ⟨1, ![2047]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048 : S_.BroadcastsInDim S2048 (![] : Fin 0 → Fin S2048.rank)
  reducesTo_S2048_S_d0 : S2048.ReducesTo [0] S_
  slices_S2048_S2047_1 : S2048.Slices ![1] S2047
  slices_S2048_S2047_0 : S2048.Slices ![0] S2047
  reducesTo_S2047_S_d0 : S2047.ReducesTo [0] S_

variable [Facts]

def fn_part2 {F : FTy → Type} [FloatOps F] (main_arg6 : IVec S2048 32) (main_v32 : IVec S_ 1) (main_v33 : IVec S2048 32) : IVec S_ 1 :=
  let main_v34 : IVec S2048 1 := cmpi .sge main_arg6 main_v33
  let main_c_12 : IVec S_ 32 := constantI S_ 32 2#32
  let main_v35 : IVec S2048 32 := broadcastInDim S2048 ![] bcast_S_S2048 main_c_12
  let main_v36 : IVec S2048 1 := cmpi .slt main_arg6 main_v35
  let main_v37 : IVec S2048 1 := andi main_v34 main_v36
  let main_c_13 : IVec S_ 1 := constantI S_ 1 1#1
  let main_v38 : IVec S_ 1 := (fun x v => Host.reduce IntOp.andi x v reducesTo_S2048_S_d0 h_S_) main_v37 main_c_13
  let main_v39 : IVec S_ 1 := andi main_v32 main_v38
  main_v39

def fn_part1 {F : FTy → Type} [FloatOps F] (main_arg1 : IVec S2048 32) (main_arg5 : IVec S2048 32) (main_arg6 : IVec S2048 32) (main_v13 : IVec S_ 1) (main_v15 : IVec S2048 1) (main_c_5 : IVec S_ 32) : IVec S_ 1 :=
  let main_v16 : IVec S2048 32 := broadcastInDim S2048 ![] bcast_S_S2048 main_c_5
  let main_v17 : IVec S2048 1 := cmpi .slt main_arg1 main_v16
  let main_v18 : IVec S2048 1 := andi main_v15 main_v17
  let main_c_6 : IVec S_ 1 := constantI S_ 1 1#1
  let main_v19 : IVec S_ 1 := (fun x v => Host.reduce IntOp.andi x v reducesTo_S2048_S_d0 h_S_) main_v18 main_c_6
  let main_v20 : IVec S_ 1 := andi main_v13 main_v19
  let main_c_7 : IVec S_ 32 := constantI S_ 32 0#32
  let main_v21 : IVec S2048 32 := broadcastInDim S2048 ![] bcast_S_S2048 main_c_7
  let main_v22 : IVec S2048 1 := cmpi .sge main_arg5 main_v21
  let main_c_8 : IVec S_ 32 := constantI S_ 32 16#32
  let main_v23 : IVec S2048 32 := broadcastInDim S2048 ![] bcast_S_S2048 main_c_8
  let main_v24 : IVec S2048 1 := cmpi .slt main_arg5 main_v23
  let main_v25 : IVec S2048 1 := andi main_v22 main_v24
  let main_c_9 : IVec S_ 1 := constantI S_ 1 1#1
  let main_v26 : IVec S_ 1 := (fun x v => Host.reduce IntOp.andi x v reducesTo_S2048_S_d0 h_S_) main_v25 main_c_9
  let main_v27 : IVec S_ 1 := andi main_v20 main_v26
  let main_v28 : IVec S2047 32 := (extractStridedSlice S2047 ![1] · slices_S2048_S2047_1) main_arg5
  let main_v29 : IVec S2047 32 := (extractStridedSlice S2047 ![0] · slices_S2048_S2047_0) main_arg5
  let main_v30 : IVec S2047 1 := cmpi .sge main_v28 main_v29
  let main_c_10 : IVec S_ 1 := constantI S_ 1 1#1
  let main_v31 : IVec S_ 1 := (fun x v => Host.reduce IntOp.andi x v reducesTo_S2047_S_d0 h_S_) main_v30 main_c_10
  let main_v32 : IVec S_ 1 := andi main_v27 main_v31
  let main_c_11 : IVec S_ 32 := constantI S_ 32 0#32
  let main_v33 : IVec S2048 32 := broadcastInDim S2048 ![] bcast_S_S2048 main_c_11
  fn_part2 (F := F) main_arg6 main_v32 main_v33

def fn {F : FTy → Type} [FloatOps F] (main_arg0 : FVec F S2048x128 .f32) (main_arg1 : IVec S2048 32) (main_arg2 : FVec F S2048 .f32) (main_arg3 : FVec F S2048x128 .f32) (main_arg4 : FVec F S2048x128 .f32) (main_arg5 : IVec S2048 32) (main_arg6 : IVec S2048 32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x128 .f32 := Host.absf main_arg3
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2048x128 .f32 := Host.absf main_arg4
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_c_4 : IVec S_ 32 := constantI S_ 32 0#32
  let main_v14 : IVec S2048 32 := broadcastInDim S2048 ![] bcast_S_S2048 main_c_4
  let main_v15 : IVec S2048 1 := cmpi .sge main_arg1 main_v14
  let main_c_5 : IVec S_ 32 := constantI S_ 32 80#32
  fn_part1 (F := F) main_arg1 main_arg5 main_arg6 main_v13 main_v15 main_c_5
-- ==== Kernel.lean ====
abbrev S2048x128 : Shape := ⟨2, ![2048, 128]⟩
abbrev S2048 : Shape := ⟨1, ![2048]⟩
abbrev S_ : Shape := ⟨0, ![]⟩
abbrev S17 : Shape := ⟨1, ![17]⟩
abbrev S1x2048 : Shape := ⟨2, ![1, 2048]⟩
abbrev S17x1 : Shape := ⟨2, ![17, 1]⟩
abbrev S17x2048 : Shape := ⟨2, ![17, 2048]⟩
abbrev S128 : Shape := ⟨1, ![128]⟩
abbrev S1x128 : Shape := ⟨2, ![1, 128]⟩
abbrev S2048x1 : Shape := ⟨2, ![2048, 1]⟩
abbrev S16 : Shape := ⟨1, ![16]⟩
abbrev S1x16 : Shape := ⟨2, ![1, 16]⟩
abbrev S2048x16 : Shape := ⟨2, ![2048, 16]⟩
abbrev S6144 : Shape := ⟨1, ![6144]⟩
abbrev S6144x1 : Shape := ⟨2, ![6144, 1]⟩
abbrev S6144x128 : Shape := ⟨2, ![6144, 128]⟩
abbrev S136 : Shape := ⟨1, ![136]⟩
abbrev S1x136 : Shape := ⟨2, ![1, 136]⟩
abbrev S2048x136 : Shape := ⟨2, ![2048, 136]⟩
abbrev S256x128 : Shape := ⟨2, ![256, 128]⟩
abbrev S128x128 : Shape := ⟨2, ![128, 128]⟩
abbrev S128x1 : Shape := ⟨2, ![128, 1]⟩
abbrev S256x8 : Shape := ⟨2, ![256, 8]⟩
abbrev S256x136 : Shape := ⟨2, ![256, 136]⟩
abbrev S512x136 : Shape := ⟨2, ![512, 136]⟩
abbrev S256x512 : Shape := ⟨2, ![256, 512]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 117
  | .vmem => 12
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S2048, .f32⟩
  | .hbm, ⟨3, _⟩ => ⟨S2048x128, .f32⟩
  | .hbm, ⟨4, _⟩ => ⟨S2048x128, .f32⟩
  | .hbm, ⟨5, _⟩ => ⟨S2048, .i32⟩
  | .hbm, ⟨6, _⟩ => ⟨S2048, .i32⟩
  | .hbm, ⟨7, _⟩ => ⟨S_, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S17, .i32⟩
  | .hbm, ⟨22, _⟩ => ⟨S1x2048, .i32⟩
  | .hbm, ⟨23, _⟩ => ⟨S17x1, .i32⟩
  | .hbm, ⟨24, _⟩ => ⟨S17x2048, .i32⟩
  | .hbm, ⟨25, _⟩ => ⟨S17x2048, .i32⟩
  | .hbm, ⟨26, _⟩ => ⟨S17x2048, .i1⟩
  | .hbm, ⟨27, _⟩ => ⟨S17x2048, .i32⟩
  | .hbm, ⟨28, _⟩ => ⟨S_, .i32⟩
  | .hbm, ⟨29, _⟩ => ⟨S17, .i32⟩
  | .hbm, ⟨30, _⟩ => ⟨S128, .i32⟩
  | .hbm, ⟨31, _⟩ => ⟨S1x128, .i32⟩
  | .hbm, ⟨32, _⟩ => ⟨S2048x1, .i32⟩
  | .hbm, ⟨33, _⟩ => ⟨S2048x128, .i32⟩
  | .hbm, ⟨34, _⟩ => ⟨S2048x128, .i32⟩
  | .hbm, ⟨35, _⟩ => ⟨S2048x128, .i1⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048x1, .i32⟩
  | .hbm, ⟨40, _⟩ => ⟨S2048x128, .i32⟩
  | .hbm, ⟨41, _⟩ => ⟨S2048x128, .i32⟩
  | .hbm, ⟨42, _⟩ => ⟨S2048x128, .i1⟩
  | .hbm, ⟨43, _⟩ => ⟨S2048x1, .i32⟩
  | .hbm, ⟨44, _⟩ => ⟨S16, .i32⟩
  | .hbm, ⟨45, _⟩ => ⟨S1x16, .i32⟩
  | .hbm, ⟨46, _⟩ => ⟨S2048x16, .i32⟩
  | .hbm, ⟨47, _⟩ => ⟨S2048x16, .i32⟩
  | .hbm, ⟨48, _⟩ => ⟨S2048x16, .i1⟩
  | .hbm, ⟨49, _⟩ => ⟨S2048x1, .i32⟩
  | .hbm, ⟨50, _⟩ => ⟨S16, .i32⟩
  | .hbm, ⟨51, _⟩ => ⟨S1x16, .i32⟩
  | .hbm, ⟨52, _⟩ => ⟨S2048x16, .i32⟩
  | .hbm, ⟨53, _⟩ => ⟨S2048x16, .i32⟩
  | .hbm, ⟨54, _⟩ => ⟨S2048x16, .i1⟩
  | .hbm, ⟨55, _⟩ => ⟨S2048x16, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i1⟩
  | .hbm, ⟨61, _⟩ => ⟨S2048x128, .i1⟩
  | .hbm, ⟨62, _⟩ => ⟨S_, .f32⟩
  | .hbm, ⟨63, _⟩ => ⟨S2048, .f32⟩
  | .hbm, ⟨64, _⟩ => ⟨S2048, .i1⟩
  | .hbm, ⟨65, _⟩ => ⟨S_, .i1⟩
  | .hbm, ⟨66, _⟩ => ⟨S2048, .i1⟩
  | .hbm, ⟨67, _⟩ => ⟨S_, .i1⟩
  | .hbm, ⟨68, _⟩ => ⟨S2048, .i1⟩
  | .hbm, ⟨69, _⟩ => ⟨S6144, .i1⟩
  | .hbm, ⟨70, _⟩ => ⟨S6144x1, .i1⟩
  | .hbm, ⟨71, _⟩ => ⟨S_, .i32⟩
  | .hbm, ⟨72, _⟩ => ⟨S1x128, .i32⟩
  | .hbm, ⟨73, _⟩ => ⟨S1x128, .i1⟩
  | .hbm, ⟨74, _⟩ => ⟨S6144x128, .i1⟩
  | .hbm, ⟨75, _⟩ => ⟨S6144x128, .i1⟩
  | .hbm, ⟨76, _⟩ => ⟨S6144x128, .i1⟩
  | .hbm, ⟨77, _⟩ => ⟨S6144x128, .i1⟩
  | .hbm, ⟨78, _⟩ => ⟨S6144x128, .bf16⟩
  | .hbm, ⟨79, _⟩ => ⟨S136, .i32⟩
  | .hbm, ⟨80, _⟩ => ⟨S1x136, .i32⟩
  | .hbm, ⟨81, _⟩ => ⟨S2048x128, .bf16⟩
  | .hbm, ⟨82, _⟩ => ⟨S_, .i32⟩
  | .hbm, ⟨83, _⟩ => ⟨S_, .bf16⟩
  | .hbm, ⟨84, _⟩ => ⟨S2048x136, .bf16⟩
  | .hbm, ⟨85, _⟩ => ⟨S_, .i32⟩
  | .hbm, ⟨86, _⟩ => ⟨S1x136, .i32⟩
  | .hbm, ⟨87, _⟩ => ⟨S1x136, .i1⟩
  | .hbm, ⟨88, _⟩ => ⟨S_, .bf16⟩
  | .hbm, ⟨89, _⟩ => ⟨S2048x136, .i1⟩
  | .hbm, ⟨90, _⟩ => ⟨S2048x136, .bf16⟩
  | .hbm, ⟨91, _⟩ => ⟨S2048x136, .bf16⟩
  | .hbm, ⟨92, _⟩ => ⟨S2048x128, .bf16⟩
  | .hbm, ⟨93, _⟩ => ⟨S_, .i32⟩
  | .hbm, ⟨94, _⟩ => ⟨S_, .bf16⟩
  | .hbm, ⟨95, _⟩ => ⟨S2048x136, .bf16⟩
  | .hbm, ⟨96, _⟩ => ⟨S_, .i32⟩
  | .hbm, ⟨97, _⟩ => ⟨S1x136, .i32⟩
  | .hbm, ⟨98, _⟩ => ⟨S1x136, .i1⟩
  | .hbm, ⟨99, _⟩ => ⟨S_, .bf16⟩
  | .hbm, ⟨100, _⟩ => ⟨S2048x136, .i1⟩
  | .hbm, ⟨101, _⟩ => ⟨S2048x136, .bf16⟩
  | .hbm, ⟨102, _⟩ => ⟨S2048x136, .bf16⟩
  | .hbm, ⟨103, _⟩ => ⟨S2048x128, .bf16⟩
  | .hbm, ⟨104, _⟩ => ⟨S_, .i32⟩
  | .hbm, ⟨105, _⟩ => ⟨S_, .bf16⟩
  | .hbm, ⟨106, _⟩ => ⟨S2048x136, .bf16⟩
  | .hbm, ⟨107, _⟩ => ⟨S_, .i32⟩
  | .hbm, ⟨108, _⟩ => ⟨S1x136, .i32⟩
  | .hbm, ⟨109, _⟩ => ⟨S1x136, .i1⟩
  | .hbm, ⟨110, _⟩ => ⟨S_, .bf16⟩
  | .hbm, ⟨111, _⟩ => ⟨S2048x136, .i1⟩
  | .hbm, ⟨112, _⟩ => ⟨S2048x136, .bf16⟩
  | .hbm, ⟨113, _⟩ => ⟨S2048x136, .bf16⟩
  | .hbm, ⟨114, _⟩ => ⟨S1x128, .f32⟩
  | .hbm, ⟨115, _⟩ => ⟨S1x1, .f32⟩
  | .hbm, ⟨116, _⟩ => ⟨S_, .f32⟩
  | .local _ .vmem, ⟨0, _⟩ => ⟨S6144x128, .bf16⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S2048x136, .bf16⟩
  | .local _ .vmem, ⟨6, _⟩ => ⟨S2048x136, .bf16⟩
  | .local _ .vmem, ⟨7, _⟩ => ⟨S2048x136, .bf16⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S1x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_call0_c : Ref sig .tc := ⟨.hbm, 7, rfl⟩
abbrev main_call0_call0_v0 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_3 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v43 : Ref sig .tc := ⟨.hbm, 61, rfl⟩
abbrev main_cst : Ref sig .tc := ⟨.hbm, 62, rfl⟩
abbrev main_v44 : Ref sig .tc := ⟨.hbm, 63, rfl⟩
abbrev main_v45 : Ref sig .tc := ⟨.hbm, 64, rfl⟩
abbrev main_c_4 : Ref sig .tc := ⟨.hbm, 65, rfl⟩
abbrev main_v46 : Ref sig .tc := ⟨.hbm, 66, rfl⟩
abbrev main_c_5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call3_v0 : Ref sig .tc := ⟨.hbm, 75, rfl⟩
abbrev main_call3_v1 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_7 : Ref sig .tc := ⟨.hbm, 82, rfl⟩
abbrev main_call4_v0 : Ref sig .tc := ⟨.hbm, 83, rfl⟩
abbrev main_v58 : Ref sig .tc := ⟨.hbm, 84, rfl⟩
abbrev main_c_8 : Ref sig .tc := ⟨.hbm, 85, rfl⟩
abbrev main_v59 : Ref sig .tc := ⟨.hbm, 86, rfl⟩
abbrev main_v60 : Ref sig .tc := ⟨.hbm, 87, rfl⟩
abbrev main_cst_9 : Ref sig .tc := ⟨.hbm, 88, rfl⟩
abbrev main_call5_v0 : Ref sig .tc := ⟨.hbm, 89, rfl⟩
abbrev main_call5_v1 : Ref sig .tc := ⟨.hbm, 90, rfl⟩
abbrev main_v61 : Ref sig .tc := ⟨.hbm, 91, rfl⟩
abbrev main_v62 : Ref sig .tc := ⟨.hbm, 92, rfl⟩
abbrev main_c_10 : Ref sig .tc := ⟨.hbm, 93, rfl⟩
abbrev main_call6_v0 : Ref sig .tc := ⟨.hbm, 94, rfl⟩
abbrev main_v63 : Ref sig .tc := ⟨.hbm, 95, rfl⟩
abbrev main_c_11 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_call7_v0 : Ref sig .tc := ⟨.hbm, 100, rfl⟩
abbrev main_call7_v1 : Ref sig .tc := ⟨.hbm, 101, rfl⟩
abbrev main_v66 : Ref sig .tc := ⟨.hbm, 102, rfl⟩
abbrev main_v67 : Ref sig .tc := ⟨.hbm, 103, rfl⟩
abbrev main_c_13 : Ref sig .tc := ⟨.hbm, 104, rfl⟩
abbrev main_call8_v0 : Ref sig .tc := ⟨.hbm, 105, rfl⟩
abbrev main_v68 : Ref sig .tc := ⟨.hbm, 106, rfl⟩
abbrev main_c_14 : Ref sig .tc := ⟨.hbm, 107, rfl⟩
abbrev main_v69 : Ref sig .tc := ⟨.hbm, 108, rfl⟩
abbrev main_v70 : Ref sig .tc := ⟨.hbm, 109, rfl⟩
abbrev main_cst_15 : Ref sig .tc := ⟨.hbm, 110, rfl⟩
abbrev main_call9_v0 : Ref sig .tc := ⟨.hbm, 111, rfl⟩
abbrev main_call9_v1 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v180 : BitVec 32 := Scalar.muli arg0 c256_i32
  let v181 : Index := Scalar.indexCast v180
  let c0_99 : Index := 0#32
  ![v181.toNat, 0]
def k0_cond4 (i : grid0.Coords) : BitVec 1 :=
  let arg0 : BitVec 32 := BitVec.ofNat 32 (i 0).val
  let c15_i32 : BitVec 32 := 15#32
  let v239 : BitVec 1 := Scalar.cmpi .eq arg0 c15_i32
  let v240 : BitVec 32 := Scalar.extui v239
  let c0_i32_118 : BitVec 32 := 0#32
  let v241 : BitVec 1 := Scalar.cmpi .ne v240 c0_i32_118
  v241

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.maxsi arg0 c8_i32
  let c8_i32_0 : BitVec 32 := 8#32
  let v1 : BitVec 32 := Scalar.subi v0 c8_i32_0
  let c0_i32 : BitVec 32 := 0#32
  let c0_i32_1 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S6144x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x136 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x136 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x136 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "scale" => some (((67108864 / 13421773) * (Real.log 2)⁻¹ : ℝ) : EReal)
  | _ => none
-- ==== ReferenceIdeal.lean ====
abbrev S2048x128 : Shape := ⟨2, ![2048, 128]⟩
abbrev S2048 : Shape := ⟨1, ![2048]⟩
abbrev S_ : Shape := ⟨0, ![]⟩
abbrev S2048x1 : Shape := ⟨2, ![2048, 1]⟩
abbrev S6144x128 : Shape := ⟨2, ![6144, 128]⟩
abbrev S128x6144 : Shape := ⟨2, ![128, 6144]⟩
abbrev S6144x6144 : Shape := ⟨2, ![6144, 6144]⟩
abbrev S6144 : Shape := ⟨1, ![6144]⟩
abbrev S6144x1 : Shape := ⟨2, ![6144, 1]⟩
abbrev S1x2048 : Shape := ⟨2, ![1, 2048]⟩
abbrev S2048x2048 : Shape := ⟨2, ![2048, 2048]⟩
abbrev S1 : Shape := ⟨1, ![1]⟩
abbrev S2 : Shape := ⟨1, ![2]⟩
abbrev S1x2048x1x2048 : Shape := ⟨4, ![1, 2048, 1, 2048]⟩
abbrev S2x2048x2x2048 : Shape := ⟨4, ![2, 2048, 2, 2048]⟩
abbrev S4096x4096 : Shape := ⟨2, ![4096, 4096]⟩
abbrev S4096 : Shape := ⟨1, ![4096]⟩

abbrev nBuf : Space → Nat
  | .hbm => 103
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S2048, .f32⟩
  | .hbm, ⟨3, _⟩ => ⟨S2048x128, .f32⟩
  | .hbm, ⟨4, _⟩ => ⟨S2048x128, .f32⟩
  | .hbm, ⟨5, _⟩ => ⟨S2048, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S2048x128, .f32⟩
  | .hbm, ⟨20, _⟩ => ⟨S6144x128, .f32⟩
  | .hbm, ⟨21, _⟩ => ⟨S128x6144, .f32⟩
  | .hbm, ⟨22, _⟩ => ⟨S6144x6144, .f32⟩
  | .hbm, ⟨23, _⟩ => ⟨S_, .f32⟩
  | .hbm, ⟨24, _⟩ => ⟨S6144x6144, .f32⟩
  | .hbm, ⟨25, _⟩ => ⟨S6144x6144, .f32⟩
  | .hbm, ⟨26, _⟩ => ⟨S_, .f32⟩
  | .hbm, ⟨27, _⟩ => ⟨S6144, .f32⟩
  | .hbm, ⟨28, _⟩ => ⟨S6144x1, .f32⟩
  | .hbm, ⟨29, _⟩ => ⟨S6144x6144, .f32⟩
  | .hbm, ⟨30, _⟩ => ⟨S6144x6144, .f32⟩
  | .hbm, ⟨31, _⟩ => ⟨S2048x1, .i32⟩
  | .hbm, ⟨32, _⟩ => ⟨S1x2048, .i32⟩
  | .hbm, ⟨33, _⟩ => ⟨S2048x2048, .i32⟩
  | .hbm, ⟨34, _⟩ => ⟨S2048x2048, .i32⟩
  | .hbm, ⟨35, _⟩ => ⟨S2048x2048, .i1⟩
  | .hbm, ⟨36, _⟩ => ⟨S2048x2048, .f32⟩
  | .hbm, ⟨37, _⟩ => ⟨S2048x1, .i32⟩
  | .hbm, ⟨38, _⟩ => ⟨S1x2048, .i32⟩
  | .hbm, ⟨39, _⟩ => ⟨S2048x2048, .i32⟩
  | .hbm, ⟨40, _⟩ => ⟨S2048x2048, .i32⟩
  | .hbm, ⟨41, _⟩ => ⟨S2048x2048, .i1⟩
  | .hbm, ⟨42, _⟩ => ⟨S2048x2048, .f32⟩
  | .hbm, ⟨43, _⟩ => ⟨S_, .f32⟩
  | .hbm, ⟨44, _⟩ => ⟨S6144x6144, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S6144x6144, .f32⟩
  | .hbm, ⟨51, _⟩ => ⟨S1x2048x1x2048, .f32⟩
  | .hbm, ⟨52, _⟩ => ⟨S2x2048x2x2048, .f32⟩
  | .hbm, ⟨53, _⟩ => ⟨S4096x4096, .f32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2, .i32⟩
  | .hbm, ⟨59, _⟩ => ⟨S6144x6144, .f32⟩
  | .hbm, ⟨60, _⟩ => ⟨S6144x6144, .i32⟩
  | .hbm, ⟨61, _⟩ => ⟨S6144x6144, .i32⟩
  | .hbm, ⟨62, _⟩ => ⟨S_, .i32⟩
  | .hbm, ⟨63, _⟩ => ⟨S6144x6144, .i32⟩
  | .hbm, ⟨64, _⟩ => ⟨S6144x6144, .i32⟩
  | .hbm, ⟨65, _⟩ => ⟨S6144x6144, .i1⟩
  | .hbm, ⟨66, _⟩ => ⟨S6144x6144, .f32⟩
  | .hbm, ⟨67, _⟩ => ⟨S_, .f32⟩
  | .hbm, ⟨68, _⟩ => ⟨S6144x6144, .f32⟩
  | .hbm, ⟨69, _⟩ => ⟨S6144x6144, .f32⟩
  | .hbm, ⟨70, _⟩ => ⟨S6144x6144, .f32⟩
  | .hbm, ⟨71, _⟩ => ⟨S6144x6144, .f32⟩
  | .hbm, ⟨72, _⟩ => ⟨S_, .f32⟩
  | .hbm, ⟨73, _⟩ => ⟨S6144, .f32⟩
  | .hbm, ⟨74, _⟩ => ⟨S6144x1, .f32⟩
  | .hbm, ⟨75, _⟩ => ⟨S6144x1, .f32⟩
  | .hbm, ⟨76, _⟩ => ⟨S6144x6144, .f32⟩
  | .hbm, ⟨77, _⟩ => ⟨S6144x6144, .f32⟩
  | .hbm, ⟨78, _⟩ => ⟨S_, .f32⟩
  | .hbm, ⟨79, _⟩ => ⟨S6144, .f32⟩
  | .hbm, ⟨80, _⟩ => ⟨S6144x6144, .f32⟩
  | .hbm, ⟨81, _⟩ => ⟨S6144x6144, .f32⟩
  | .hbm, ⟨82, _⟩ => ⟨S_, .f32⟩
  | .hbm, ⟨83, _⟩ => ⟨S6144, .f32⟩
  | .hbm, ⟨84, _⟩ => ⟨S6144, .f32⟩
  | .hbm, ⟨85, _⟩ => ⟨S_, .f32⟩
  | .hbm, ⟨86, _⟩ => ⟨S2048, .f32⟩
  | .hbm, ⟨87, _⟩ => ⟨S4096, .f32⟩
  | .hbm, ⟨88, _⟩ => ⟨S_, .f32⟩
  | .hbm, ⟨89, _⟩ => ⟨S4096, .f32⟩
  | .hbm, ⟨90, _⟩ => ⟨S4096, .i1⟩
  | .hbm, ⟨91, _⟩ => ⟨S4096, .f32⟩
  | .hbm, ⟨92, _⟩ => ⟨S4096, .f32⟩
  | .hbm, ⟨93, _⟩ => ⟨S_, .f32⟩
  | .hbm, ⟨94, _⟩ => ⟨S4096, .f32⟩
  | .hbm, ⟨95, _⟩ => ⟨S4096, .f32⟩
  | .hbm, ⟨96, _⟩ => ⟨S4096, .f32⟩
  | .hbm, ⟨97, _⟩ => ⟨S4096, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1_0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_c_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_cst_16 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== Proof.Maths.lean ====
module

public import Idealize.ShloMosaic.PureOps
public import Idealize.ShloMosaic.Lib.Pointwise

@[expose] public section

noncomputable section

namespace Cert.Loss

open Idealize.ShloMosaic

/-! ## Real numbers inside the extended reals -/

/-- A finite sum of real numbers, read as extended reals, is the sum of the terms read so. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a real number. -/
theorem exp_coe (r : ℝ) : Ideal.exp (r : EReal) = ((Real.exp r : ℝ) : EReal) := rfl

/-- The power of two of a real number, by the exponential. -/
theorem exp2_coe (r : ℝ) : Ideal.exp2 (r : EReal) = ((Real.exp (Real.log 2 * r) : ℝ) : EReal) := by
  show ((Real.rpow 2 r : ℝ) : EReal) = _
  rw [show Real.rpow 2 r = (2 : ℝ) ^ r from rfl, Real.rpow_def_of_pos (by norm_num)]

/-- The logarithm of a positive real number. -/
theorem log_coe (r : ℝ) (h : 0 < r) : Ideal.log (r : EReal) = ((Real.log r : ℝ) : EReal) := by
  show (if r ≤ 0 then (⊥ : EReal) else _) = _
  rw [if_neg (not_le.mpr h)]

/-- The quotient of real numbers by a number other than zero. -/
theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

/-- The greatest of finitely many real numbers, folded from the bottom element, is a real number. -/
theorem fold_max_coe {n : ℕ} (f : Fin (n + 1) → ℝ) :
    ∃ r : ℝ, Finset.univ.fold max (⊥ : EReal) (fun k => (f k : EReal)) = (r : EReal) := by
  have key : ∀ s : Finset (Fin (n + 1)), s.Nonempty → ∃ r : ℝ, s.fold max (⊥ : EReal) (fun k => (f k : EReal)) = (r : EReal) := by
    intro s hs
    induction hs using Finset.Nonempty.cons_induction with
    | singleton a => exact ⟨f a, by simp⟩
    | cons a s ha hs ih =>
      obtain ⟨r, hr⟩ := ih
      exact ⟨max (f a) r, by rw [Finset.fold_cons, hr]; exact (Monotone.map_max (f := ((↑) : ℝ → EReal)) (fun _ _ h => EReal.coe_le_coe_iff.mpr h)).symm⟩
  exact key _ Finset.univ_nonempty

/-! ## Words that count -/

/-- Two words that count are equal when the counts are. -/
theorem cmpi_eq_ofNat (a b : ℕ) (ha : a < 2 ^ 32) (hb : b < 2 ^ 32) :
    IntOp.cmpi CmpIPredicate.eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff, ← BitVec.toNat_inj, BitVec.toNat_ofNat, BitVec.toNat_ofNat,
    Nat.mod_eq_of_lt ha, Nat.mod_eq_of_lt hb]

/-! ## One row of the loss -/

/-- The inner product of two rows. -/
def dot {ι : Type} (Y : ι → Fin 128 → ℝ) (i j : ι) : ℝ := ∑ k, Y i k * Y j k

/-- The mean of the log probabilities of the other rows of row `i`'s class, the class given by weights `same`, times one over
    the class's size: the similarities are the inner products times `c`. -/
def rowLoss {ι : Type} [Fintype ι] (c : ℝ) (Y : ι → Fin 128 → ℝ) (same : ι → ι → ℝ) (i : ι) : ℝ :=
  (c * ((∑ j, same i j * dot Y i j) - dot Y i i)
    - ((∑ j, same i j) - 1) * Real.log ((∑ j, Real.exp (c * dot Y i j)) - Real.exp (c * dot Y i i))) / ∑ j, same i j

/-- A renumbering of the rows that leaves row `i` in place leaves its value. -/
theorem rowLoss_perm {ι : Type} [Fintype ι] (c : ℝ) (Y : ι → Fin 128 → ℝ) (same : ι → ι → ℝ) (σ : Equiv.Perm ι) (i : ι)
    (hi : σ i = i) : rowLoss c (fun a => Y (σ a)) (fun a b => same (σ a) (σ b)) i = rowLoss c Y same i := by
  unfold rowLoss
  have e1 : ∀ j, dot (fun a => Y (σ a)) i j = dot Y i (σ j) := fun j => by unfold dot; simp only [hi]
  simp only [e1, hi]
  rw [Equiv.sum_comp σ (fun j => same i j * dot Y i j), Equiv.sum_comp σ (fun j => same i j),
    Equiv.sum_comp σ (fun j => Real.exp (c * dot Y i j))]

/-- The other rows' exponentials add up to a positive number. -/
theorem sum_sub_pos {ι : Type} [Fintype ι] [Nontrivial ι] (f : ι → ℝ) (hf : ∀ j, 0 < f j) (i : ι) : 0 < (∑ j, f j) - f i := by
  classical
  rw [← Finset.add_sum_erase _ _ (Finset.mem_univ i), add_sub_cancel_left]
  obtain ⟨k, hk⟩ := exists_ne i
  exact Finset.sum_pos (fun j _ => hf j) ⟨k, by simp [hk]⟩

/-- The weights that a one-hot table `o` gives to a pair of rows, lane 96 left out. -/
def sameOf {ι : Type} (o : ι → Fin 128 → ℝ) (i j : ι) : ℝ := ∑ l : Fin 128, o i l * (if l.val = 96 then 0 else o j l)

/-- The shifted sum of exponentials that a pass with shift `m` leaves, the row's own term taken off. -/
theorem shifted_sum {ι : Type} [Fintype ι] (t m : ℝ) (f : ι → ℝ) (i : ι) :
    (∑ j, Real.exp (t * (f j + -m))) - Real.exp (t * (f i + -m))
      = Real.exp (-(t * m)) * ((∑ j, Real.exp (t * f j)) - Real.exp (t * f i)) := by
  have e : ∀ j, Real.exp (t * (f j + -m)) = Real.exp (-(t * m)) * Real.exp (t * f j) := fun j => by
    rw [← Real.exp_add]; congr 1; ring
  simp only [e]
  rw [← Finset.mul_sum]; ring

/-- A row of the kernel: class sums first, powers of two, shift `m` (any real number). -/
theorem kernel_row {ι : Type} [Fintype ι] [Nontrivial ι] (κ t m : ℝ) (ht : t ≠ 0) (Y : ι → Fin 128 → ℝ) (o : ι → Fin 128 → ℝ) (i : ι) :
    ((∑ k, (Y i k * κ) * ∑ l : Fin 128, o i l * (if l.val = 96 then 0 else ∑ j, o j l * Y j k)) - (∑ k, (Y i k * κ) * Y i k)
      - ((∑ l : Fin 128, o i l * (if l.val = 96 then 0 else ∑ j, o j l)) - 1)
        * (Real.log ((∑ j, Real.exp (t * ((∑ k, (Y i k * κ) * Y j k) + -m))) - Real.exp (t * ((∑ k, (Y i k * κ) * Y i k) + -m))) * t⁻¹ - -m))
      / (∑ l : Fin 128, o i l * (if l.val = 96 then 0 else ∑ j, o j l))
      = t⁻¹ * rowLoss (κ * t) Y (sameOf o) i := by
  have hdot : ∀ j, (∑ k, (Y i k * κ) * Y j k) = κ * dot Y i j := fun j => by
    unfold dot; rw [Finset.mul_sum]; exact Finset.sum_congr rfl fun k _ => by ring
  have hcnt : (∑ l : Fin 128, o i l * (if l.val = 96 then 0 else ∑ j, o j l)) = ∑ j, sameOf o i j := by
    unfold sameOf
    rw [Finset.sum_comm]
    refine Finset.sum_congr rfl fun l _ => ?_
    by_cases h : l.val = 96
    · simp [h]
    · simp only [h, if_false, Finset.mul_sum]
  have ha : (∑ k, (Y i k * κ) * ∑ l : Fin 128, o i l * (if l.val = 96 then 0 else ∑ j, o j l * Y j k))
      = κ * ∑ j, sameOf o i j * dot Y i j := by
    have e1 : ∀ k, (Y i k * κ) * (∑ l : Fin 128, o i l * (if l.val = 96 then 0 else ∑ j, o j l * Y j k))
        = ∑ j, κ * (sameOf o i j * (Y i k * Y j k)) := by
      intro k
      have e2 : ∀ l : Fin 128, o i l * (if l.val = 96 then 0 else ∑ j, o j l * Y j k)
          = ∑ j, (o i l * (if l.val = 96 then 0 else o j l)) * Y j k := by
        intro l
        by_cases h : l.val = 96
        · simp [h]
        · simp only [h, if_false, Finset.mul_sum]
          exact Finset.sum_congr rfl fun j _ => by ring
      simp only [e2]
      rw [Finset.sum_comm, Finset.mul_sum]
      refine Finset.sum_congr rfl fun j _ => ?_
      rw [← Finset.sum_mul]
      unfold sameOf; ring
    simp only [e1]
    rw [Finset.sum_comm, Finset.mul_sum]
    refine Finset.sum_congr rfl fun j _ => ?_
    unfold dot
    rw [Finset.mul_sum, Finset.mul_sum]
  rw [ha, hcnt]
  simp only [hdot]
  rw [shifted_sum t m (fun j => κ * dot Y i j) i]
  have hpos : 0 < (∑ j, Real.exp (t * (κ * dot Y i j))) - Real.exp (t * (κ * dot Y i i)) :=
    sum_sub_pos (fun j => Real.exp (t * (κ * dot Y i j))) (fun j => Real.exp_pos _) i
  rw [Real.log_mul (Real.exp_pos _).ne' hpos.ne', Real.log_exp]
  unfold rowLoss
  have hc : ∀ j, Real.exp (κ * t * dot Y i j) = Real.exp (t * (κ * dot Y i j)) := fun j => by congr 1; ring
  simp only [hc]
  generalize Real.log ((∑ j, Real.exp (t * (κ * dot Y i j))) - Real.exp (t * (κ * dot Y i i))) = Lg
  generalize (∑ j, sameOf o i j * dot Y i j) = A
  generalize (∑ j, sameOf o i j) = C
  rw [mul_div_assoc']
  congr 1
  field_simp
  ring

/-- The kernel's shifted sum, its own term taken off, is positive. -/
theorem kernel_sum_pos {ι : Type} [Fintype ι] [Nontrivial ι] (f : ι → ℝ) (i : ι) :
    0 < (∑ j, Real.exp (f j)) - Real.exp (f i) :=
  sum_sub_pos (fun j => Real.exp (f j)) (fun j => Real.exp_pos _) i

/-- The reference's sum of exponentials over the other rows is positive. -/
theorem reference_sum {ι : Type} [Fintype ι] [DecidableEq ι] (f : ι → ℝ) (i : ι) :
    (∑ j, f j * (1 - if i = j then 1 else 0)) = (∑ j, f j) - f i := by
  have e : ∀ j, f j * (1 - if i = j then (1 : ℝ) else 0) = f j - (if i = j then f j else 0) := fun j => by
    by_cases h : i = j <;> simp [h]
  simp only [e, Finset.sum_sub_distrib, Finset.sum_ite_eq, Finset.mem_univ, if_true]

/-- A row of the reference: similarities shifted by `m` (any real number), the log of the sum over the other rows, the masked
    sum over the row's class. -/
theorem reference_row {ι : Type} [Fintype ι] [Nontrivial ι] [DecidableEq ι] (c m : ℝ) (Y : ι → Fin 128 → ℝ) (same : ι → ι → ℝ) (i : ι)
    (hs : same i i = 1) :
    (∑ j, ((c * dot Y i j - m) - Real.log (∑ j, Real.exp (c * dot Y i j - m) * (1 - if i = j then 1 else 0)))
        * (1 - if i = j then 1 else 0) * same i j) / (∑ j, same i j) = rowLoss c Y same i := by
  rw [reference_sum]
  have e0 : ∀ j, Real.exp (c * dot Y i j - m) = Real.exp (1 * (c * dot Y i j + -m)) := fun j => by congr 1; ring
  simp only [e0]
  rw [shifted_sum 1 m (fun j => c * dot Y i j) i]
  have hpos : 0 < (∑ j, Real.exp (1 * (c * dot Y i j))) - Real.exp (1 * (c * dot Y i i)) :=
    sum_sub_pos (fun j => Real.exp (1 * (c * dot Y i j))) (fun j => Real.exp_pos _) i
  rw [Real.log_mul (Real.exp_pos _).ne' hpos.ne', Real.log_exp]
  unfold rowLoss
  simp only [one_mul]
  generalize Real.log ((∑ j, Real.exp (c * dot Y i j)) - Real.exp (c * dot Y i i)) = Lg
  congr 1
  have e : ∀ j, (c * dot Y i j - m - (-m + Lg)) * (1 - if i = j then 1 else 0) * same i j
      = ((c * dot Y i j - Lg) * same i j) * (1 - if i = j then 1 else 0) := fun j => by ring
  simp only [e]
  rw [reference_sum (fun j => (c * dot Y i j - Lg) * same i j) i, hs]
  have e2 : (∑ j, (c * dot Y i j - Lg) * same i j) = c * (∑ j, same i j * dot Y i j) - Lg * ∑ j, same i j := by
    rw [Finset.mul_sum, Finset.mul_sum, ← Finset.sum_sub_distrib]
    exact Finset.sum_congr rfl fun j _ => by ring
  rw [e2]; ring

/-! ## The rows in three segments of 2048, and in twelve chunks of 512 -/

/-- Three tables of 2048 rows as one of 6144. -/
def cat3 {α : Type} (a b c : Fin 2048 → α) (j : Fin 6144) : α :=
  if h : j.val < 2048 then a ⟨j.val, h⟩ else if h2 : j.val < 4096 then b ⟨j.val - 2048, by omega⟩ else c ⟨j.val - 4096, by omega⟩

/-- A sum over a range of `a + b` numbers, cut in two. -/
theorem sum_cut {M : Type} [AddCommMonoid M] (n a b : ℕ) (h : n = a + b) (f : Fin n → M) :
    ∑ j, f j = (∑ j : Fin a, f ⟨j.val, by omega⟩) + ∑ j : Fin b, f ⟨a + j.val, by omega⟩ := by
  subst h
  rw [Fin.sum_univ_add]
  rfl

/-- A sum over the 6144 rows, by segments. -/
theorem sum_seg {M : Type} [AddCommMonoid M] (f : Fin 6144 → M) :
    ∑ j, f j = (∑ j : Fin 2048, f ⟨j.val, by omega⟩) + (∑ j : Fin 2048, f ⟨2048 + j.val, by omega⟩) + ∑ j : Fin 2048, f ⟨4096 + j.val, by omega⟩ := by
  rw [sum_cut 6144 4096 2048 rfl f, sum_cut 4096 2048 2048 rfl]

/-- A sum over 2048 rows, by chunks of 512. -/
theorem sum_chunks {M : Type} [AddCommMonoid M] (f : Fin 2048 → M) :
    ∑ j, f j = (∑ j : Fin 512, f ⟨j.val, by omega⟩) + (∑ j : Fin 512, f ⟨512 + j.val, by omega⟩)
      + (∑ j : Fin 512, f ⟨1024 + j.val, by omega⟩) + ∑ j : Fin 512, f ⟨1536 + j.val, by omega⟩ := by
  rw [sum_cut 2048 1536 512 rfl f, sum_cut 1536 1024 512 rfl, sum_cut 1024 512 512 rfl]

/-- A sum over the 4096 anchor rows, by the sixteen blocks of 256 that a run visits. -/
theorem sum_blocks {M : Type} [AddCommMonoid M] (f : Fin 4096 → M) :
    ∑ j, f j = ∑ t : Fin 16, ∑ r : Fin 256, f ⟨256 * t.val + r.val, by omega⟩ := by
  rw [← Fintype.sum_prod_type']
  refine (Fintype.sum_equiv (finProdFinEquiv (m := 16) (n := 256)) _ _ fun p => ?_).symm
  congr 1
  apply Fin.ext
  simp [finProdFinEquiv, add_comm]

end Cert.Loss
-- ==== Proof.KernRows.lean ====
module

public import proofs.«01_k».proof.Proof.Gen.KernelIdeal.Skeleton
public import proofs.«01_k».proof.Proof.Maths

@[expose] public section

set_option maxRecDepth 16384

noncomputable section

namespace Cert.Loss

open Cert.KernelIdeal Cert.KernelIdeal.Gen Idealize.ShloMosaic Idealize.ShloMosaic.TcCoe Idealize.SL.Sem

/-! ## What one block of rows computes -/

/-- A row of real numbers with one more entry `b` at position 128 and zeros behind it. -/
def augRow (a : Fin 128 → ℝ) (b : ℝ) (k : Fin 136) : EReal :=
  if h : k.val < 128 then (a ⟨k.val, h⟩ : EReal) else if k.val = 128 then (b : EReal) else 0

/-- The product of two rows so extended. -/
theorem augRow_dot (a z : Fin 128 → ℝ) (b : ℝ) :
    (∑ k : Fin 136, augRow a b k * augRow z 1 k) = (((∑ k, a k * z k) + b : ℝ) : EReal) := by
  rw [sum_cut 136 128 8 rfl (fun k => augRow a b k * augRow z 1 k), EReal.coe_add]
  rw [coe_sum]
  refine congrArg₂ (· + ·) ?_ ?_
  · refine Finset.sum_congr rfl fun k _ => ?_
    unfold augRow
    rw [dif_pos k.isLt, dif_pos k.isLt, EReal.coe_mul]
  · rw [Finset.sum_eq_single (0 : Fin 8)]
    · unfold augRow; simp
    · intro k _ hk
      have hk' : k.val ≠ 0 := fun h => hk (Fin.ext h)
      unfold augRow
      simp [hk']
    · simp

/-- The similarities of a block of rows with a chunk of rows. -/
theorem sim_at (L : FVec Ideal S256x136 .bf16) (v : FVec Ideal S512x136 .bf16) (A : Fin 256 → Fin 128 → ℝ) (b : Fin 256 → ℝ)
    (Z : Fin 512 → Fin 128 → ℝ) (hL : ∀ r k, L (ix2 r k) = augRow (A r) (b r) k) (hv : ∀ q k, v (ix2 q k) = augRow (Z q) 1 k)
    (r : Fin 256) (q : Fin 512) :
    matmul dot_S256x136_S512x136_S256x512_1_1_0_0_n_n none L (shapeCast S512x136 v shapeCasts_S512x136_S512x136)
      (constant S256x512 .f32 0x00000000#32) (ix2 r q) = (((∑ k, A r k * Z q k) + b r : ℝ) : EReal) := by
  pointwise [hL, hv]
  exact augRow_dot _ _ _

/-- The greatest similarity of each row in a chunk. -/
def maxOf (L : FVec Ideal S256x136 .bf16) (v : FVec Ideal S512x136 .bf16) : FVec Ideal S256x1 .f32 :=
  shapeCast S256x1 (multiReduction .maximumf [1] S256 (matmul dot_S256x136_S512x136_S256x512_1_1_0_0_n_n none L
    (shapeCast S512x136 v shapeCasts_S512x136_S512x136) (constant S256x512 .f32 0x00000000#32)) 0xFF800000#32 reduces_S256x512_S256 (.inl rfl) rfl)
    shapeCasts_S256_S256x1

/-- The sum over a chunk of the powers of two of the similarities of each row. -/
def sumOf (L : FVec Ideal S256x136 .bf16) (v : FVec Ideal S512x136 .bf16) : FVec Ideal S256x1 .f32 :=
  shapeCast S256x1 (multiReduction .add [1] S256 (exp2 (matmul dot_S256x136_S512x136_S256x512_1_1_0_0_n_n none L
    (shapeCast S512x136 v shapeCasts_S512x136_S512x136) (constant S256x512 .f32 0x00000000#32))) 0x00000000#32 reduces_S256x512_S256 (.inl rfl) rfl)
    shapeCasts_S256_S256x1

/-- Every entry of a column is a real number. -/
def Reals (v : FVec Ideal S256x1 .f32) : Prop := ∃ g : Fin 256 → ℝ, ∀ r, v (ix2 r 0) = (g r : EReal)

/-- The pattern of negative infinity is the bottom element. -/
theorem ofBits_ninf : Ideal.ofBits .f32 0xFF800000#32 = ⊥ := by simp [Ideal.ofBits, Ideal.ieee]

/-- The greatest similarities are real numbers. -/
theorem reals_maxOf (L : FVec Ideal S256x136 .bf16) (v : FVec Ideal S512x136 .bf16) (A : Fin 256 → Fin 128 → ℝ) (b : Fin 256 → ℝ)
    (Z : Fin 512 → Fin 128 → ℝ) (hL : ∀ r k, L (ix2 r k) = augRow (A r) (b r) k) (hv : ∀ q k, v (ix2 q k) = augRow (Z q) 1 k) :
    Reals (maxOf L v) := by
  have h : ∀ r : Fin 256, ∃ g : ℝ, maxOf L v (ix2 r 0) = (g : EReal) := by
    intro r
    obtain ⟨g, hg⟩ := fold_max_coe (n := 511) (fun q => (∑ k, A r k * Z q k) + b r)
    refine ⟨g, ?_⟩
    rw [← hg]
    unfold maxOf
    have hs := sim_at L v A b Z hL hv r
    generalize matmul dot_S256x136_S512x136_S256x512_1_1_0_0_n_n none L (shapeCast S512x136 v shapeCasts_S512x136_S512x136)
      (constant S256x512 .f32 0x00000000#32) = X at hs ⊢
    pointwise [hs, ofBits_ninf]
  exact ⟨fun r => (h r).choose, fun r => (h r).choose_spec⟩

/-- The greater of two columns of real numbers is one. -/
theorem reals_max (u v : FVec Ideal S256x1 .f32) (hu : Reals u) (hv : Reals v) : Reals (maximumf u v) := by
  obtain ⟨f, hf⟩ := hu
  obtain ⟨g, hg⟩ := hv
  refine ⟨fun r => max (f r) (g r), fun r => ?_⟩
  pointwise [hf, hg]
  exact (Monotone.map_max (f := ((↑) : ℝ → EReal)) (fun _ _ h => EReal.coe_le_coe_iff.mpr h)).symm

/-- The sum over a chunk of the powers of two, as a real number. -/
theorem sumOf_at (L : FVec Ideal S256x136 .bf16) (v : FVec Ideal S512x136 .bf16) (A : Fin 256 → Fin 128 → ℝ) (b : Fin 256 → ℝ)
    (Z : Fin 512 → Fin 128 → ℝ) (hL : ∀ r k, L (ix2 r k) = augRow (A r) (b r) k) (hv : ∀ q k, v (ix2 q k) = augRow (Z q) 1 k) (r : Fin 256) :
    sumOf L v (ix2 r 0) = ((∑ q, Real.exp (Real.log 2 * ((∑ k, A r k * Z q k) + b r)) : ℝ) : EReal) := by
  unfold sumOf
  have hs := sim_at L v A b Z hL hv r
  generalize matmul dot_S256x136_S512x136_S256x512_1_1_0_0_n_n none L (shapeCast S512x136 v shapeCasts_S512x136_S512x136)
      (constant S256x512 .f32 0x00000000#32) = X at hs ⊢
  pointwise [hs]
  rw [coe_sum]
  exact Finset.sum_congr rfl fun q _ => exp2_coe _

/-- The block's rows, scaled. -/
theorem pay9_at (i : grid0.Coords) (v4 v5 : Vec Ideal S256x128 .f32) (R : Fin 256 → Fin 128 → ℝ)
    (hR : ∀ r k, k0_pay8 i v4 v5 (ix2 r k) = (R r k : EReal)) (r : Fin 256) (k : Fin 128) :
    k0_pay9 i v4 v5 (ix2 r k) = ((R r k * ((67108864 / 13421773) * (Real.log 2)⁻¹) : ℝ) : EReal) := by
  generalize h8 : k0_pay8 i v4 v5 = X at hR
  unfold k0_pay9
  rw [h8]
  pointwise [hR]
  rw [EReal.coe_mul]
  rfl

/-- The block's rows, scaled, with zeros behind. -/
theorem pay11_at (i : grid0.Coords) (v4 v5 : Vec Ideal S256x128 .f32) (A : Fin 256 → Fin 128 → ℝ)
    (hA : ∀ r k, k0_pay9 i v4 v5 (ix2 r k) = (A r k : EReal)) (r : Fin 256) (k : Fin 136) :
    k0_pay11 i v4 v5 (ix2 r k) = augRow (A r) 0 k := by
  generalize h9 : k0_pay9 i v4 v5 = X at hA
  unfold k0_pay11
  rw [h9]
  pointwise [hA, augRow]
  by_cases h : k.val < 128
  · rw [dif_pos h, dif_pos h]
  · rw [dif_neg h, dif_neg h]
    simp

/-- The rows with the shift put behind them. -/
theorem pay18_at (v13 : FVec Ideal S256x136 .bf16) (v66 : FVec Ideal S256x1 .f32) (v69 : FVec Ideal S256x512 .f32)
    (v73 v79 : Vec Ideal S512x136 .bf16) (A : Fin 256 → Fin 128 → ℝ) (b : Fin 256 → ℝ)
    (hA : ∀ r k, v13 (ix2 r k) = augRow (A r) 0 k) (hb : ∀ r, k0_pay16 v13 v66 v69 v73 v79 (ix2 r 0) = (b r : EReal)) (r : Fin 256) (k : Fin 136) :
    k0_pay18 v13 v66 v69 v73 v79 (ix2 r k) = augRow (A r) (b r) k := by
  generalize h16 : k0_pay16 v13 v66 v69 v73 v79 = X at hb
  unfold k0_pay18
  rw [h16]
  pointwise [hA, hb, augRow]
  by_cases h : k.val = 128
  · have hn : ¬ k.val < 128 := by omega
    rw [dif_neg hn, dif_neg hn, if_pos h, h]
    rfl
  · have hb' : IntOp.cmpi CmpIPredicate.eq (BitVec.ofNat 32 k.val) 128#32 = 0#1 := by
      have hk := k.isLt
      exact (cmpi_eq_ofNat k.val 128 (by omega) (by norm_num)).trans (by rw [decide_eq_false h]; rfl)
    rw [hb', if_neg h, if_neg h]
    rfl

end Cert.Loss
-- ==== Proof.KernRun.lean ====
module

public import proofs.«01_k».proof.Proof.Gen.KernelIdeal.Frame
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Loss

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## What a grid point stores, over what it reads -/

/-- The first chunk of 512 rows of a segment. -/
abbrev ch0 (p : Vec F S2048x136 .bf16) : Vec F S512x136 .bf16 := View.ld p (Rect.unit ![0, 0] ![512, 136] inb_S2048x136_S512x136_0_0)

/-- The second chunk of 512 rows of a segment. -/
abbrev ch1 (p : Vec F S2048x136 .bf16) : Vec F S512x136 .bf16 := View.ld p (Rect.unit ![512, 0] ![512, 136] inb_S2048x136_S512x136_512_0)

/-- The third chunk of 512 rows of a segment. -/
abbrev ch2 (p : Vec F S2048x136 .bf16) : Vec F S512x136 .bf16 := View.ld p (Rect.unit ![1024, 0] ![512, 136] inb_S2048x136_S512x136_1024_0)

/-- The fourth chunk of 512 rows of a segment. -/
abbrev ch3 (p : Vec F S2048x136 .bf16) : Vec F S512x136 .bf16 := View.ld p (Rect.unit ![1536, 0] ![512, 136] inb_S2048x136_S512x136_1536_0)

/-- The greatest similarity of each row of the block with the first nine chunks. -/
def topT (i : grid0.Coords) (pr nr : Vec F S256x128 .f32) (p n0 n1 : Vec F S2048x136 .bf16) : FVec F S256x1 .f32 :=
  k0_pay14 (k0_pay11 i pr nr) (k0_pay12 i pr nr (ch0 p) (ch1 p) (ch2 p)) (k0_pay13 i pr nr (ch3 p)) (ch0 n0) (ch1 n0) (ch2 n0) (ch3 n0) (ch0 n1)

/-- The similarities of the block's rows with the tenth chunk. -/
def simT (i : grid0.Coords) (pr nr : Vec F S256x128 .f32) (n1 : Vec F S2048x136 .bf16) : FVec F S256x512 .f32 :=
  k0_pay15 (k0_pay11 i pr nr) (ch1 n1)

/-- The block's rows for the second pass. -/
def rows2T (i : grid0.Coords) (pr nr : Vec F S256x128 .f32) (p n0 n1 : Vec F S2048x136 .bf16) : FVec F S256x136 .bf16 :=
  k0_pay18 (k0_pay11 i pr nr) (topT i pr nr p n0 n1) (simT i pr nr n1) (ch2 n1) (ch3 n1)

/-- The sums of powers of two of the second pass. -/
def sumT (i : grid0.Coords) (pr nr : Vec F S256x128 .f32) (p n0 n1 : Vec F S2048x136 .bf16) : FVec F S256x1 .f32 :=
  k0_pay22 (rows2T i pr nr p n0 n1)
    (k0_pay20 (rows2T i pr nr p n0 n1) (k0_pay19 (k0_pay11 i pr nr) (topT i pr nr p n0 n1) (simT i pr nr n1) (ch2 n1) (ch3 n1) (ch0 p) (ch1 p))
      (ch2 p) (ch3 p) (ch0 n0) (ch1 n0) (ch2 n0))
    (k0_pay21 (rows2T i pr nr p n0 n1) (ch3 n0)) (ch0 n1) (ch1 n1) (ch2 n1) (ch3 n1)

/-- The block's rows of the one-hot table. -/
abbrev ohT (i : grid0.Coords) (oh : Vec F S6144x128 .bf16) : Vec F S256x128 .bf16 :=
  View.ld oh (Rect.unit (k0_off1 i) ![256, 128] (k0_off1_inb i))

/-- What a point adds to the two running totals. -/
def vecT (i : grid0.Coords) (oh : Vec F S6144x128 .bf16) (pr nr : Vec F S256x128 .f32) (p n0 n1 : Vec F S2048x136 .bf16)
    (s : Vec F S128x128 .bf16) (n : Vec F S1x128 .f32) : FVec F S1x128 .f32 :=
  k0_pay25 (k0_pay8 i pr nr) (k0_pay10 i pr nr)
    (k0_pay17 (k0_pay11 i pr nr) (topT i pr nr p n0 n1) (simT i pr nr n1) (ch2 n1) (ch3 n1)) (sumT i pr nr p n0 n1)
    (k0_pay23 (ohT i oh)) (k0_pay24 (ohT i oh)) s (constant S256x128 .f32 0x00000000#32) n

/-- The class sums of the rows, lane 96 zeroed. -/
def sT (oh : Vec F S6144x128 .bf16) (p n0 n1 : Vec F S2048x136 .bf16) : FVec F S128x128 .bf16 :=
  k0_pay4 (View.ld oh (Rect.unit ![0, 0] ![2048, 128] inb_S6144x128_S2048x128_0_0)) (View.ld p (Rect.unit ![0, 0] ![2048, 128] inb_S2048x136_S2048x128_0_0))
    (View.ld oh (Rect.unit ![2048, 0] ![2048, 128] inb_S6144x128_S2048x128_2048_0)) (View.ld n0 (Rect.unit ![0, 0] ![2048, 128] inb_S2048x136_S2048x128_0_0))
    (View.ld oh (Rect.unit ![4096, 0] ![2048, 128] inb_S6144x128_S2048x128_4096_0)) (View.ld n1 (Rect.unit ![0, 0] ![2048, 128] inb_S2048x136_S2048x128_0_0))

/-- The class sizes, lane 96 zeroed. -/
def nT (oh : Vec F S6144x128 .bf16) : FVec F S1x128 .f32 := k0_pay7 (k0_pay5) (k0_pay6 oh)

/-- After a later point the totals are the earlier totals with the point's added. -/
theorem acc_B (c : Dev nD) (t : Fin cfg0.N) (h0 : ¬t.val % 16 = 0) (h2 : 1 ≤ t.val) (h3 : ¬t.val % 16 = 15) :
    (outsAt0 m c t.val t.isLt).2.1 = k0_pay2 (vecT (grid0.coords t) (iblk m c 0 t) (iblk m c 1 t) (iblk m c 2 t) (iblk m c 3 t) (iblk m c 4 t) (iblk m c 5 t)
      (outsAt0 m c (t.val - 1) (by have := t.isLt; omega)).2.2.1 (outsAt0 m c (t.val - 1) (by have := t.isLt; omega)).2.2.2)
      (outsAt0 m c (t.val - 1) (by have := t.isLt; omega)).2.1 := by
  funext y
  rw [outsAt0_B m c t h0 h0 h2 h3]
  frame_out
  simp only [read_unread_whole]
  rfl

/-- The first point stores its totals. -/
theorem acc_A (c : Dev nD) (t : Fin cfg0.N) (h0 : t.val % 16 = 0) (h2 : ¬1 ≤ t.val) (h3 : ¬t.val % 16 = 15) :
    (outsAt0 m c t.val t.isLt).2.1 = k0_pay1 (vecT (grid0.coords t) (iblk m c 0 t) (iblk m c 1 t) (iblk m c 2 t) (iblk m c 3 t) (iblk m c 4 t) (iblk m c 5 t)
      (sT (iblk m c 0 t) (iblk m c 3 t) (iblk m c 4 t) (iblk m c 5 t)) (nT (iblk m c 0 t))) := by
  funext y
  rw [outsAt0_A m c t h0 h0 h2 h3]
  frame_out
  rfl

/-- The first point stores the class sums. -/
theorem cls_A (c : Dev nD) (t : Fin cfg0.N) (h0 : t.val % 16 = 0) (h2 : ¬1 ≤ t.val) (h3 : ¬t.val % 16 = 15) :
    (outsAt0 m c t.val t.isLt).2.2.1 = (sT (iblk m c 0 t) (iblk m c 3 t) (iblk m c 4 t) (iblk m c 5 t)) := by
  funext y
  rw [outsAt0_A m c t h0 h0 h2 h3]
  frame_out
  rfl

/-- The first point stores the class sizes. -/
theorem cnt_A (c : Dev nD) (t : Fin cfg0.N) (h0 : t.val % 16 = 0) (h2 : ¬1 ≤ t.val) (h3 : ¬t.val % 16 = 15) :
    (outsAt0 m c t.val t.isLt).2.2.2 = (nT (iblk m c 0 t)) := by
  funext y
  rw [outsAt0_A m c t h0 h0 h2 h3]
  frame_out
  rfl

/-- A later point leaves the class sums. -/
theorem cls_B (c : Dev nD) (t : Fin cfg0.N) (h0 : ¬t.val % 16 = 0) (h2 : 1 ≤ t.val) (h3 : ¬t.val % 16 = 15) :
    (outsAt0 m c t.val t.isLt).2.2.1 = (outsAt0 m c (t.val - 1) (by have := t.isLt; omega)).2.2.1 := by
  funext y
  rw [outsAt0_B m c t h0 h0 h2 h3]
  frame_out
  rfl

/-- The last point leaves the class sums. -/
theorem cls_C (c : Dev nD) (t : Fin cfg0.N) (h0 : ¬t.val % 16 = 0) (h2 : 1 ≤ t.val) (h3 : t.val % 16 = 15) :
    (outsAt0 m c t.val t.isLt).2.2.1 = (outsAt0 m c (t.val - 1) (by have := t.isLt; omega)).2.2.1 := by
  funext y
  rw [outsAt0_C m c t h0 h0 h2 h3]
  frame_out
  rfl

/-- A later point leaves the class sizes. -/
theorem cnt_B (c : Dev nD) (t : Fin cfg0.N) (h0 : ¬t.val % 16 = 0) (h2 : 1 ≤ t.val) (h3 : ¬t.val % 16 = 15) :
    (outsAt0 m c t.val t.isLt).2.2.2 = (outsAt0 m c (t.val - 1) (by have := t.isLt; omega)).2.2.2 := by
  funext y
  rw [outsAt0_B m c t h0 h0 h2 h3]
  frame_out
  rfl

/-- The last point leaves the class sizes. -/
theorem cnt_C (c : Dev nD) (t : Fin cfg0.N) (h0 : ¬t.val % 16 = 0) (h2 : 1 ≤ t.val) (h3 : t.val % 16 = 15) :
    (outsAt0 m c t.val t.isLt).2.2.2 = (outsAt0 m c (t.val - 1) (by have := t.isLt; omega)).2.2.2 := by
  funext y
  rw [outsAt0_C m c t h0 h0 h2 h3]
  frame_out
  rfl

/-- After the last point the totals are the earlier totals with the point's added. -/
theorem acc_C (c : Dev nD) (t : Fin cfg0.N) (h0 : ¬t.val % 16 = 0) (h2 : 1 ≤ t.val) (h3 : t.val % 16 = 15) :
    (outsAt0 m c t.val t.isLt).2.1 = k0_pay2 (vecT (grid0.coords t) (iblk m c 0 t) (iblk m c 1 t) (iblk m c 2 t) (iblk m c 3 t) (iblk m c 4 t) (iblk m c 5 t)
      (outsAt0 m c (t.val - 1) (by have := t.isLt; omega)).2.2.1 (outsAt0 m c (t.val - 1) (by have := t.isLt; omega)).2.2.2) (outsAt0 m c (t.val - 1) (by have := t.isLt; omega)).2.1 := by
  funext y
  rw [outsAt0_C m c t h0 h0 h2 h3]
  frame_out
  simp only [read_unread_whole]
  rfl

/-- The last point stores the quotient of the two totals. -/
theorem out_C (c : Dev nD) (t : Fin cfg0.N) (h0 : ¬t.val % 16 = 0) (h2 : 1 ≤ t.val) (h3 : t.val % 16 = 15) :
    (outsAt0 m c t.val t.isLt).1 = k0_pay3 (k0_pay2 (vecT (grid0.coords t) (iblk m c 0 t) (iblk m c 1 t) (iblk m c 2 t) (iblk m c 3 t) (iblk m c 4 t) (iblk m c 5 t)
      (outsAt0 m c (t.val - 1) (by have := t.isLt; omega)).2.2.1 (outsAt0 m c (t.val - 1) (by have := t.isLt; omega)).2.2.2) (outsAt0 m c (t.val - 1) (by have := t.isLt; omega)).2.1) := by
  funext y
  rw [outsAt0_C m c t h0 h0 h2 h3]
  frame_out
  simp only [read_unread_whole]
  rfl

end Cert.Loss
-- ==== Proof.KernVal.lean ====
module

public import proofs.«01_k».proof.Proof.KernRows
public import proofs.«01_k».proof.Proof.KernRun
public import Idealize.ShloMosaic.Lib.Pointwise

@[expose] public section

set_option maxRecDepth 16384

noncomputable section

namespace Cert.Loss

open Cert.KernelIdeal Cert.KernelIdeal.Gen Idealize.ShloMosaic Idealize.ShloMosaic.TcCoe Idealize.SL.Sem

/-! ## The value of a block's rows -/

/-- The column of keep flags of a block. -/
def keepT (o : FVec Ideal S256x128 .f32) : FVec Ideal S256x1 .f32 := extractStridedSlice S256x1 ![0, 96] o slices_S256x128_o0_96_S256x1

/-- The mean log probability of each row of a block. -/
def rowT (v6 : Vec Ideal S256x128 .f32) (v10 : FVec Ideal S256x128 .f32) (v88 v179 : FVec Ideal S256x1 .f32) (v183 : FVec Ideal S256x128 .bf16)
    (v184 : FVec Ideal S256x128 .f32) (v185 : FVec Ideal S128x128 .bf16) (v195 : FVec Ideal S1x128 .f32) : FVec Ideal S256x1 .f32 :=
  let v189 : FVec Ideal S256x1 .f32 := shapeCast S256x1 (multiReduction .add [1] S256 (mulf v10 (matmul dot_S256x128_S128x128_S256x128_1_0_0_1_n_n none v183 v185
    (constant S256x128 .f32 0x00000000#32))) 0x00000000#32 reduces_S256x128_S256 (.inl rfl) rfl) shapeCasts_S256_S256x1
  let v194 : FVec Ideal S256x1 .f32 := shapeCast S256x1 (multiReduction .add [1] S256 (mulf v10 (extf .f32 (truncf .bf16 v6 bitsLt_bf16_f32) bitsLt_bf16_f32))
    0x00000000#32 reduces_S256x128_S256 (.inl rfl) rfl) shapeCasts_S256_S256x1
  let v199 : FVec Ideal S256x1 .f32 := shapeCast S256x1 (multiReduction .add [1] S256 (mulf v184 (broadcastTo S256x128 v195 broadcasts_S1x128_S256x128))
    0x00000000#32 reduces_S256x128_S256 (.inl rfl) rfl) shapeCasts_S256_S256x1
  divf (subf (subf v189 v194) (mulf (subf v199 (broadcast S256x1 (Scalar.ofBits .f32 0x3F800000#32)))
    (subf (mulf (log (subf v179 (exp2 (addf v194 v88)))) (broadcast S256x1 (Named.named κ "log2e" 0x3FB8AA3B#32))) v88))) v199

/-- The two sums of a block put in the first two lanes. -/
def pairT (u w : FVec Ideal S256x1 .f32) : FVec Ideal S1x128 .f32 :=
  have v218 : Ideal .f32 := extractAt ![0, 0, 0] (shapeCast S1x1x1 (multiReduction .add [1, 2] S1 (shapeCast S1x256x1 u shapeCasts_S256x1_S1x256x1)
    0x00000000#32 reduces_S1x256x1_S1 (.inl rfl) rfl) shapeCasts_S1_S1x1x1) inpos_S1x1x1_p0_0_0
  have v222 : Ideal .f32 := extractAt ![0, 0, 0] (shapeCast S1x1x1 (multiReduction .add [1, 2] S1 (shapeCast S1x256x1 w shapeCasts_S256x1_S1x256x1)
    0x00000000#32 reduces_S1x256x1_S1 (.inl rfl) rfl) shapeCasts_S1_S1x1x1) inpos_S1x1x1_p0_0_0
  select (cmpi .eq (iota .tc S1x128 32 [1] iota_S1x128_d1_w32) (broadcast S1x128 0#32)) (broadcast S1x128 v218)
    (select (cmpi .eq (iota .tc S1x128 32 [1] iota_S1x128_d1_w32) (broadcast S1x128 1#32)) (broadcast S1x128 v222)
      (broadcast S1x128 (Scalar.ofBits .f32 0x00000000#32)))

/-- The payload of a point is the pair of sums of its rows. -/
theorem pay25_eq (v6 : Vec Ideal S256x128 .f32) (v10 : FVec Ideal S256x128 .f32) (v88 v179 : FVec Ideal S256x1 .f32) (v183 : FVec Ideal S256x128 .bf16)
    (v184 : FVec Ideal S256x128 .f32) (v185 : FVec Ideal S128x128 .bf16) (v195 : FVec Ideal S1x128 .f32) :
    k0_pay25 v6 v10 v88 v179 v183 v184 v185 (constant S256x128 .f32 0x00000000#32) v195
      = pairT (mulf (keepT v184) (rowT v6 v10 v88 v179 v183 v184 v185 v195)) (keepT v184) := rfl

/-- The sum of a column over its 256 rows, in lane 0. -/
theorem pairT_zero (u w : FVec Ideal S256x1 .f32) (f : Fin 256 → ℝ) (hu : ∀ r, u (ix2 r 0) = (f r : EReal)) :
    pairT u w (ix2 0 0) = ((∑ r, f r : ℝ) : EReal) := by
  unfold pairT
  pointwise [hu]
  rw [coe_sum]
  simp only [Finset.univ_unique, Finset.sum_singleton]

/-- The sum of a column over its 256 rows, in lane 1. -/
theorem pairT_one (u w : FVec Ideal S256x1 .f32) (f : Fin 256 → ℝ) (hw : ∀ r, w (ix2 r 0) = (f r : EReal)) :
    pairT u w (ix2 0 1) = ((∑ r, f r : ℝ) : EReal) := by
  unfold pairT
  pointwise [hw]
  rw [coe_sum]
  simp only [Finset.univ_unique, Finset.sum_singleton]
  rfl

/-- The keep flag of a row. -/
theorem keepT_at (v184 : FVec Ideal S256x128 .f32) (o : Fin 256 → Fin 128 → ℝ) (ho : ∀ r l, v184 (ix2 r l) = (o r l : EReal)) (r : Fin 256) :
    keepT v184 (ix2 r 0) = (o r 96 : EReal) := by
  unfold keepT
  pointwise [ho]

/-- The mean log probability of a row, as a real number. -/
theorem rowT_at (v6 : Vec Ideal S256x128 .f32) (v10 : FVec Ideal S256x128 .f32) (v88 v179 : FVec Ideal S256x1 .f32) (v183 : FVec Ideal S256x128 .bf16)
    (v184 : FVec Ideal S256x128 .f32) (v185 : FVec Ideal S128x128 .bf16) (v195 : FVec Ideal S1x128 .f32)
    (R A o : Fin 256 → Fin 128 → ℝ) (b S : Fin 256 → ℝ) (s : Fin 128 → Fin 128 → ℝ) (n : Fin 128 → ℝ)
    (h6 : ∀ r k, v6 (ix2 r k) = (R r k : EReal)) (h10 : ∀ r k, v10 (ix2 r k) = (A r k : EReal))
    (h88 : ∀ r, v88 (ix2 r 0) = (b r : EReal)) (h179 : ∀ r, v179 (ix2 r 0) = (S r : EReal))
    (h183 : ∀ r l, v183 (ix2 r l) = (o r l : EReal)) (h184 : ∀ r l, v184 (ix2 r l) = (o r l : EReal))
    (h185 : ∀ l k, v185 (ix2 l k) = (s l k : EReal)) (h195 : ∀ l, v195 (ix2 0 l) = (n l : EReal)) (r : Fin 256)
    (hpos : 0 < S r - Real.exp (Real.log 2 * ((∑ k, A r k * R r k) + b r))) (hne : (∑ l, o r l * n l) ≠ 0) :
    rowT v6 v10 v88 v179 v183 v184 v185 v195 (ix2 r 0)
      = ((((∑ k, A r k * ∑ l, o r l * s l k) - (∑ k, A r k * R r k) - ((∑ l, o r l * n l) - 1)
        * (Real.log (S r - Real.exp (Real.log 2 * ((∑ k, A r k * R r k) + b r))) * (Real.log 2)⁻¹ - b r)) / (∑ l, o r l * n l) : ℝ) : EReal) := by
  unfold rowT
  pointwise [h6, h10, h88, h179, h183, h184, h185, h195]
  have e1 : (∑ x, (A r x : EReal) * ∑ l, (o r l : EReal) * (s l x : EReal)) = ((∑ k, A r k * ∑ l, o r l * s l k : ℝ) : EReal) := by
    simp only [coe_sum, EReal.coe_mul]
  have e2 : (∑ x, (A r x : EReal) * (R r x : EReal)) = ((∑ k, A r k * R r k : ℝ) : EReal) := by simp only [coe_sum, EReal.coe_mul]
  have e3 : (∑ l, (o r l : EReal) * (n l : EReal)) = ((∑ l, o r l * n l : ℝ) : EReal) := by simp only [coe_sum, EReal.coe_mul]
  have e4 : (Named.named κ "log2e" 1069066811#32 : Ideal .f32) = (((Real.log 2)⁻¹ : ℝ) : EReal) := rfl
  rw [e1, e2, e3, e4, ← EReal.coe_add, show (FloatOps.exp2 (((∑ k, A r k * R r k) + b r : ℝ) : EReal) : Ideal .f32) = _ from exp2_coe _, ← EReal.coe_sub, ← EReal.coe_sub,
    log_coe _ hpos, ← EReal.coe_mul, ← EReal.coe_sub, ← EReal.coe_one, ← EReal.coe_sub, ← EReal.coe_mul, ← EReal.coe_sub, div_coe _ _ hne]

/-! ## The chunks of a segment -/

/-- The rows of the first chunk. -/
theorem ch0_at (p : Vec Ideal S2048x136 .bf16) (X : Fin 2048 → Fin 128 → ℝ) (h : ∀ q k, p (ix2 q k) = augRow (X q) 1 k) (q : Fin 512) (k : Fin 136) :
    ch0 p (ix2 q k) = augRow (X ⟨q.val, by omega⟩) 1 k := by
  rw [← h]
  unfold ch0
  pointwise

/-- The rows of the second chunk. -/
theorem ch1_at (p : Vec Ideal S2048x136 .bf16) (X : Fin 2048 → Fin 128 → ℝ) (h : ∀ q k, p (ix2 q k) = augRow (X q) 1 k) (q : Fin 512) (k : Fin 136) :
    ch1 p (ix2 q k) = augRow (X ⟨512 + q.val, by omega⟩) 1 k := by
  rw [← h]
  unfold ch1
  pointwise

/-- The rows of the third chunk. -/
theorem ch2_at (p : Vec Ideal S2048x136 .bf16) (X : Fin 2048 → Fin 128 → ℝ) (h : ∀ q k, p (ix2 q k) = augRow (X q) 1 k) (q : Fin 512) (k : Fin 136) :
    ch2 p (ix2 q k) = augRow (X ⟨1024 + q.val, by omega⟩) 1 k := by
  rw [← h]
  unfold ch2
  pointwise

/-- The rows of the fourth chunk. -/
theorem ch3_at (p : Vec Ideal S2048x136 .bf16) (X : Fin 2048 → Fin 128 → ℝ) (h : ∀ q k, p (ix2 q k) = augRow (X q) 1 k) (q : Fin 512) (k : Fin 136) :
    ch3 p (ix2 q k) = augRow (X ⟨1536 + q.val, by omega⟩) 1 k := by
  rw [← h]
  unfold ch3
  pointwise

/-- The offset of a block's rows in the one-hot table. -/
theorem off1_val : ∀ n : Fin 16, (Scalar.indexCast (Scalar.muli (BitVec.ofNat 32 n.val) 256#32) : Index).toNat = 256 * n.val := by decide +kernel

/-- A block's rows of the one-hot table. -/
theorem ohT_at (i : grid0.Coords) (oh : Vec Ideal S6144x128 .bf16) (o : Fin 6144 → Fin 128 → ℝ) (h : ∀ j l, oh (ix2 j l) = (o j l : EReal))
    (J : Fin 256 → Fin 6144) (hJ : ∀ r, (J r).val = 256 * (i 0).val + r.val) (r : Fin 256) (l : Fin 128) : ohT i oh (ix2 r l) = (o (J r) l : EReal) := by
  rw [← h]
  unfold ohT
  pointwise
  have e : k0_off1 i 0 = 256 * (i 0).val := off1_val (i 0)
  have e1 : k0_off1 i 1 = 0 := rfl
  refine congrArg oh (congrArg₂ ix2 (Fin.ext ?_) (Fin.ext ?_))
  · show k0_off1 i 0 + r.val = (J r).val
    rw [e, hJ]
  · show k0_off1 i 1 + l.val = l.val
    rw [e1, Nat.zero_add]

/-! ## The two passes over the twelve chunks -/

/-- The first nine maxima, chunk by chunk. -/
theorem topT_eq (i : grid0.Coords) (pr nr : Vec Ideal S256x128 .f32) (p n0 n1 : Vec Ideal S2048x136 .bf16) (L : FVec Ideal S256x136 .bf16)
    (hL : k0_pay11 i pr nr = L) : topT i pr nr p n0 n1
      = maximumf (maximumf (maximumf (maximumf (maximumf (maximumf (maximumf (maximumf (maxOf L (ch0 p)) (maxOf L (ch1 p))) (maxOf L (ch2 p))) (maxOf L (ch3 p)))
          (maxOf L (ch0 n0))) (maxOf L (ch1 n0))) (maxOf L (ch2 n0))) (maxOf L (ch3 n0))) (maxOf L (ch0 n1)) := by
  subst hL; rfl

/-- The shift, from the twelve maxima. -/
theorem pay16_eq (L : FVec Ideal S256x136 .bf16) (v66 : FVec Ideal S256x1 .f32) (v67 v73 v79 : Vec Ideal S512x136 .bf16) :
    k0_pay16 L v66 (k0_pay15 L v67) v73 v79
      = truncf .bf16 (subf (broadcast S256x1 (Scalar.ofBits .f32 0x00000000#32)) (maximumf (maximumf (maximumf v66 (maxOf L v67)) (maxOf L v73)) (maxOf L v79))) bitsLt_bf16_f32 := rfl

/-- The sums of powers of two, chunk by chunk. -/
theorem sumT_eq (i : grid0.Coords) (pr nr : Vec Ideal S256x128 .f32) (p n0 n1 : Vec Ideal S2048x136 .bf16) (L : FVec Ideal S256x136 .bf16)
    (hL : rows2T i pr nr p n0 n1 = L) : sumT i pr nr p n0 n1
      = addf (addf (addf (addf (addf (addf (addf (addf (addf (addf (addf (sumOf L (ch0 p)) (sumOf L (ch1 p))) (sumOf L (ch2 p))) (sumOf L (ch3 p)))
          (sumOf L (ch0 n0))) (sumOf L (ch1 n0))) (sumOf L (ch2 n0))) (sumOf L (ch3 n0))) (sumOf L (ch0 n1))) (sumOf L (ch1 n1))) (sumOf L (ch2 n1))) (sumOf L (ch3 n1)) := by
  subst hL; rfl

/-- The sum of two columns at a row, as a real number. -/
theorem add_at (u v : FVec Ideal S256x1 .f32) (r : Fin 256) (f g : ℝ) (hu : u (ix2 r 0) = (f : EReal)) (hv : v (ix2 r 0) = (g : EReal)) :
    addf u v (ix2 r 0) = ((f + g : ℝ) : EReal) := by
  pointwise [hu, hv]
  exact (EReal.coe_add _ _).symm

/-- A row of the first segment. -/
theorem cat3_zero {α : Type} (a b c : Fin 2048 → α) (j : Fin 2048) : cat3 a b c ⟨j.val, by omega⟩ = a j := by
  unfold cat3; rw [dif_pos j.isLt]

/-- A row of the second segment. -/
theorem cat3_one {α : Type} (a b c : Fin 2048 → α) (j : Fin 2048) : cat3 a b c ⟨2048 + j.val, by omega⟩ = b j := by
  unfold cat3
  rw [dif_neg (by simp), dif_pos (show 2048 + j.val < 4096 by omega)]
  exact congrArg b (Fin.ext (by simp))

/-- A row of the third segment. -/
theorem cat3_two {α : Type} (a b c : Fin 2048 → α) (j : Fin 2048) : cat3 a b c ⟨4096 + j.val, by omega⟩ = c j := by
  unfold cat3
  rw [dif_neg (show ¬ 4096 + j.val < 2048 by omega), dif_neg (show ¬ 4096 + j.val < 4096 by omega)]
  exact congrArg c (Fin.ext (by simp))

/-- The scale of the kernel's similarities. -/
def kap : ℝ := (67108864 / 13421773) * (Real.log 2)⁻¹

section point

variable (i : grid0.Coords) (pr nr : Vec Ideal S256x128 .f32) (p n0 n1 : Vec Ideal S2048x136 .bf16) (X0 X1 X2 : Fin 2048 → Fin 128 → ℝ)
  (hp : ∀ q k, p (ix2 q k) = augRow (X0 q) 1 k) (h0 : ∀ q k, n0 (ix2 q k) = augRow (X1 q) 1 k) (h1 : ∀ q k, n1 (ix2 q k) = augRow (X2 q) 1 k)
  (R : Fin 256 → Fin 128 → ℝ) (hR : ∀ r k, k0_pay8 i pr nr (ix2 r k) = (R r k : EReal))

include hR in
/-- The scaled rows of a block, extended by zeros. -/
theorem rows1_at (r : Fin 256) (k : Fin 136) : k0_pay11 i pr nr (ix2 r k) = augRow (fun k => R r k * kap) 0 k :=
  pay11_at i pr nr (fun r k => R r k * kap) (fun r k => pay9_at i pr nr R hR r k) r k

include hp h0 h1 hR in
/-- The shift of the second pass is a column of real numbers. -/
theorem shift_real : ∃ b : Fin 256 → ℝ, ∀ r, k0_pay16 (k0_pay11 i pr nr) (topT i pr nr p n0 n1) (simT i pr nr n1) (ch2 n1) (ch3 n1) (ix2 r 0) = (b r : EReal) := by
  have hL := rows1_at i pr nr R hR
  have e := topT_eq i pr nr p n0 n1 _ rfl
  unfold simT
  rw [e, pay16_eq]
  generalize k0_pay11 i pr nr = L at hL ⊢
  have M : ∀ (v : Vec Ideal S512x136 .bf16) (Z : Fin 512 → Fin 128 → ℝ), (∀ q k, v (ix2 q k) = augRow (Z q) 1 k) → Reals (maxOf L v) :=
    fun v Z hv => reals_maxOf L v _ (fun _ => 0) Z hL hv
  have T : Reals (maximumf (maximumf (maximumf (maximumf (maximumf (maximumf (maximumf (maximumf (maximumf (maximumf (maximumf (maxOf L (ch0 p)) (maxOf L (ch1 p))) (maxOf L (ch2 p)))
      (maxOf L (ch3 p))) (maxOf L (ch0 n0))) (maxOf L (ch1 n0))) (maxOf L (ch2 n0))) (maxOf L (ch3 n0))) (maxOf L (ch0 n1))) (maxOf L (ch1 n1))) (maxOf L (ch2 n1))) (maxOf L (ch3 n1))) := by
    refine reals_max _ _ (reals_max _ _ (reals_max _ _ (reals_max _ _ (reals_max _ _ (reals_max _ _ (reals_max _ _ (reals_max _ _ (reals_max _ _ (reals_max _ _ (reals_max _ _
      (M _ _ (ch0_at p X0 hp)) (M _ _ (ch1_at p X0 hp))) (M _ _ (ch2_at p X0 hp))) (M _ _ (ch3_at p X0 hp)))
      (M _ _ (ch0_at n0 X1 h0))) (M _ _ (ch1_at n0 X1 h0))) (M _ _ (ch2_at n0 X1 h0))) (M _ _ (ch3_at n0 X1 h0)))
      (M _ _ (ch0_at n1 X2 h1))) (M _ _ (ch1_at n1 X2 h1))) (M _ _ (ch2_at n1 X2 h1))) (M _ _ (ch3_at n1 X2 h1))
  obtain ⟨g, hg⟩ := T
  refine ⟨fun r => 0 - g r, fun r => ?_⟩
  have hg' := hg r
  generalize maximumf (maximumf (maximumf (maximumf (maximumf (maximumf (maximumf (maximumf (maximumf (maximumf (maximumf (maxOf L (ch0 p)) (maxOf L (ch1 p))) (maxOf L (ch2 p)))
      (maxOf L (ch3 p))) (maxOf L (ch0 n0))) (maxOf L (ch1 n0))) (maxOf L (ch2 n0))) (maxOf L (ch3 n0))) (maxOf L (ch0 n1))) (maxOf L (ch1 n1))) (maxOf L (ch2 n1))) (maxOf L (ch3 n1)) = X at hg' ⊢
  pointwise [hg']
  rw [EReal.coe_sub, EReal.coe_zero]

include hp h0 h1 hR in
/-- The sum of powers of two over all 6144 rows. -/
theorem sumT_at (b : Fin 256 → ℝ)
    (hb : ∀ r, k0_pay16 (k0_pay11 i pr nr) (topT i pr nr p n0 n1) (simT i pr nr n1) (ch2 n1) (ch3 n1) (ix2 r 0) = (b r : EReal)) (r : Fin 256) :
    sumT i pr nr p n0 n1 (ix2 r 0) = ((∑ j : Fin 6144, Real.exp (Real.log 2 * ((∑ k, (R r k * kap) * cat3 X0 X1 X2 j k) + b r)) : ℝ) : EReal) := by
  have hL : ∀ r k, rows2T i pr nr p n0 n1 (ix2 r k) = augRow (fun k => R r k * kap) (b r) k :=
    fun r k => pay18_at _ _ _ _ _ (fun r k => R r k * kap) b (rows1_at i pr nr R hR) hb r k
  rw [sumT_eq i pr nr p n0 n1 _ rfl]
  generalize rows2T i pr nr p n0 n1 = L at hL ⊢
  have M : ∀ (v : Vec Ideal S512x136 .bf16) (Z : Fin 512 → Fin 128 → ℝ), (∀ q k, v (ix2 q k) = augRow (Z q) 1 k) →
      sumOf L v (ix2 r 0) = ((∑ q, Real.exp (Real.log 2 * ((∑ k, (R r k * kap) * Z q k) + b r)) : ℝ) : EReal) :=
    fun v Z hv => sumOf_at L v _ b Z hL hv r
  refine (add_at _ _ r _ _ (add_at _ _ r _ _ (add_at _ _ r _ _ (add_at _ _ r _ _ (add_at _ _ r _ _ (add_at _ _ r _ _ (add_at _ _ r _ _ (add_at _ _ r _ _ (add_at _ _ r _ _ (add_at _ _ r _ _ (add_at _ _ r _ _
      (M _ _ (ch0_at p X0 hp)) (M _ _ (ch1_at p X0 hp))) (M _ _ (ch2_at p X0 hp))) (M _ _ (ch3_at p X0 hp)))
      (M _ _ (ch0_at n0 X1 h0))) (M _ _ (ch1_at n0 X1 h0))) (M _ _ (ch2_at n0 X1 h0))) (M _ _ (ch3_at n0 X1 h0)))
      (M _ _ (ch0_at n1 X2 h1))) (M _ _ (ch1_at n1 X2 h1))) (M _ _ (ch2_at n1 X2 h1))) (M _ _ (ch3_at n1 X2 h1))).trans ?_
  refine congrArg _ ?_
  rw [sum_seg (fun j : Fin 6144 => Real.exp (Real.log 2 * ((∑ k, (R r k * kap) * cat3 X0 X1 X2 j k) + b r)))]
  simp only [cat3_zero, cat3_one, cat3_two]
  rw [sum_chunks (fun j => Real.exp (Real.log 2 * ((∑ k, (R r k * kap) * X0 j k) + b r))),
    sum_chunks (fun j => Real.exp (Real.log 2 * ((∑ k, (R r k * kap) * X1 j k) + b r))),
    sum_chunks (fun j => Real.exp (Real.log 2 * ((∑ k, (R r k * kap) * X2 j k) + b r)))]
  simp only [add_assoc]

end point

/-! ## The class sums and sizes -/

/-- An entry of an extended row inside the row. -/
theorem augRow_in (a : Fin 128 → ℝ) (b : ℝ) (k : Fin 128) : augRow a b ⟨k.val, by omega⟩ = (a k : EReal) := by
  unfold augRow; rw [dif_pos k.isLt]

/-- The first 128 columns of a segment. -/
theorem seg_at (p : Vec Ideal S2048x136 .bf16) (X : Fin 2048 → Fin 128 → ℝ) (h : ∀ q k, p (ix2 q k) = augRow (X q) 1 k) (q : Fin 2048) (k : Fin 128) :
    View.ld p (Rect.unit ![0, 0] ![2048, 128] inb_S2048x136_S2048x128_0_0) (ix2 q k) = (X q k : EReal) := by
  rw [← augRow_in (X q) 1 k, ← h]
  pointwise

/-- The first segment's rows of the one-hot table. -/
theorem oh0_at (oh : Vec Ideal S6144x128 .bf16) (q : Fin 2048) (l : Fin 128) :
    View.ld oh (Rect.unit ![0, 0] ![2048, 128] inb_S6144x128_S2048x128_0_0) (ix2 q l) = oh (ix2 ⟨q.val, by omega⟩ l) := by
  pointwise

/-- The second segment's rows of the one-hot table. -/
theorem oh1_at (oh : Vec Ideal S6144x128 .bf16) (q : Fin 2048) (l : Fin 128) :
    View.ld oh (Rect.unit ![2048, 0] ![2048, 128] inb_S6144x128_S2048x128_2048_0) (ix2 q l) = oh (ix2 ⟨2048 + q.val, by omega⟩ l) := by
  pointwise

/-- The third segment's rows of the one-hot table. -/
theorem oh2_at (oh : Vec Ideal S6144x128 .bf16) (q : Fin 2048) (l : Fin 128) :
    View.ld oh (Rect.unit ![4096, 0] ![2048, 128] inb_S6144x128_S2048x128_4096_0) (ix2 q l) = oh (ix2 ⟨4096 + q.val, by omega⟩ l) := by
  pointwise

/-- A choice by the word of a lane number. -/
theorem select_lane (l : Fin 128) (x y : EReal) :
    Scalar.select (IntOp.cmpi CmpIPredicate.eq (BitVec.ofNat 32 l.val) 96#32) x y = if l.val = 96 then x else y := by
  rw [show (96#32 : BitVec 32) = BitVec.ofNat 32 96 from rfl, cmpi_eq_ofNat _ _ (by omega) (by norm_num)]
  by_cases h : l.val = 96
  · rw [if_pos h, decide_eq_true h]; rfl
  · rw [if_neg h, decide_eq_false h]; rfl

/-- The class sums over three segments. -/
theorem pay4_at (a0 x0 a1 x1 a2 x2 : Vec Ideal S2048x128 .bf16) (A0 B0 A1 B1 A2 B2 : Fin 2048 → Fin 128 → ℝ)
    (ha0 : ∀ q l, a0 (ix2 q l) = (A0 q l : EReal)) (hx0 : ∀ q l, x0 (ix2 q l) = (B0 q l : EReal))
    (ha1 : ∀ q l, a1 (ix2 q l) = (A1 q l : EReal)) (hx1 : ∀ q l, x1 (ix2 q l) = (B1 q l : EReal))
    (ha2 : ∀ q l, a2 (ix2 q l) = (A2 q l : EReal)) (hx2 : ∀ q l, x2 (ix2 q l) = (B2 q l : EReal)) (l k : Fin 128) :
    k0_pay4 a0 x0 a1 x1 a2 x2 (ix2 l k)
      = (((if l.val = 96 then 0 else (∑ q, A0 q l * B0 q k) + (∑ q, A1 q l * B1 q k) + ∑ q, A2 q l * B2 q k : ℝ)) : EReal) := by
  unfold k0_pay4
  pointwise [ha0, hx0, ha1, hx1, ha2, hx2]
  refine (select_lane l _ _).trans ?_
  split_ifs
  · rfl
  · simp only [EReal.coe_add, coe_sum, EReal.coe_mul]

/-- The class sizes. -/
theorem pay7_at (v : FVec Ideal S6144x128 .f32) (o : Fin 6144 → Fin 128 → ℝ) (h : ∀ j l, v (ix2 j l) = (o j l : EReal)) (l : Fin 128) :
    k0_pay7 k0_pay5 v (ix2 0 l) = (((if l.val = 96 then 0 else ∑ j, o j l : ℝ)) : EReal) := by
  unfold k0_pay7 k0_pay5
  pointwise [h]
  refine (select_lane l _ _).trans ?_
  split_ifs
  · rfl
  · rw [coe_sum]

section point

variable (i : grid0.Coords) (oh : Vec Ideal S6144x128 .bf16) (pr nr : Vec Ideal S256x128 .f32) (p n0 n1 : Vec Ideal S2048x136 .bf16) (X0 X1 X2 : Fin 2048 → Fin 128 → ℝ)
  (o : Fin 6144 → Fin 128 → ℝ) (ho : ∀ j l, oh (ix2 j l) = (o j l : EReal))
  (hp : ∀ q k, p (ix2 q k) = augRow (X0 q) 1 k) (h0 : ∀ q k, n0 (ix2 q k) = augRow (X1 q) 1 k) (h1 : ∀ q k, n1 (ix2 q k) = augRow (X2 q) 1 k)

include ho hp h0 h1 in
/-- The class sums over all 6144 rows. -/
theorem sT_at (l k : Fin 128) :
    sT oh p n0 n1 (ix2 l k) = (((if l.val = 96 then 0 else ∑ j, o j l * cat3 X0 X1 X2 j k : ℝ)) : EReal) := by
  unfold sT
  refine (pay4_at _ _ _ _ _ _ _ _ _ _ _ _ (fun q l => (oh0_at oh q l).trans (ho _ _)) (seg_at p X0 hp) (fun q l => (oh1_at oh q l).trans (ho _ _)) (seg_at n0 X1 h0)
    (fun q l => (oh2_at oh q l).trans (ho _ _)) (seg_at n1 X2 h1) l k).trans ?_
  rw [sum_seg (fun j => o j l * cat3 X0 X1 X2 j k)]
  simp only [cat3_zero, cat3_one, cat3_two]

include ho in
/-- The class sizes over all 6144 rows. -/
theorem nT_at (l : Fin 128) : nT oh (ix2 0 l) = (((if l.val = 96 then 0 else ∑ j, o j l : ℝ)) : EReal) := by
  unfold nT
  refine pay7_at _ o (fun j l => ?_) l
  rw [← ho]
  unfold k0_pay6
  pointwise

include ho hp h0 h1 in
/-- What a point adds: the kept rows' mean log probabilities, and how many rows are kept. -/
theorem vecT_at (J : Fin 256 → Fin 6144) (hJ : ∀ r, (J r).val = 256 * (i 0).val + r.val)
    (hR : ∀ r k, k0_pay8 i pr nr (ix2 r k) = ((cat3 X0 X1 X2 (J r) k : ℝ) : EReal))
    (hc : ∀ r, (∑ l, o (J r) l * (if l.val = 96 then 0 else ∑ j, o j l)) ≠ 0) :
    vecT i oh pr nr p n0 n1 (sT oh p n0 n1) (nT oh) (ix2 0 0)
        = ((∑ r, o (J r) 96 * ((Real.log 2)⁻¹ * rowLoss (kap * Real.log 2) (cat3 X0 X1 X2) (sameOf o) (J r)) : ℝ) : EReal)
      ∧ vecT i oh pr nr p n0 n1 (sT oh p n0 n1) (nT oh) (ix2 0 1) = ((∑ r, o (J r) 96 : ℝ) : EReal) := by
  obtain ⟨b, hb⟩ := shift_real i pr nr p n0 n1 X0 X1 X2 hp h0 h1 _ hR
  have hS := sumT_at i pr nr p n0 n1 X0 X1 X2 hp h0 h1 _ hR b hb
  have h10 : ∀ r k, k0_pay10 i pr nr (ix2 r k) = ((cat3 X0 X1 X2 (J r) k * kap : ℝ) : EReal) := fun r k => pay9_at i pr nr _ hR r k
  have h88 : ∀ r, k0_pay17 (k0_pay11 i pr nr) (topT i pr nr p n0 n1) (simT i pr nr n1) (ch2 n1) (ch3 n1) (ix2 r 0) = (b r : EReal) := hb
  have h183 : ∀ r l, k0_pay23 (ohT i oh) (ix2 r l) = (o (J r) l : EReal) := fun r l => by
    have e := ohT_at i oh o ho J hJ r l
    generalize ohT i oh = X at e ⊢
    unfold k0_pay23
    pointwise [e]
  have h184 : ∀ r l, k0_pay24 (ohT i oh) (ix2 r l) = (o (J r) l : EReal) := h183
  have hlog : Real.log 2 ≠ 0 := (Real.log_pos (by norm_num)).ne'
  unfold vecT
  rw [pay25_eq]
  refine ⟨pairT_zero _ _ _ fun r => ?_, pairT_one _ _ _ fun r => keepT_at _ _ h184 r⟩
  have hk := kernel_row kap (Real.log 2) (-(b r)) hlog (cat3 X0 X1 X2) o (J r)
  simp only [neg_neg] at hk
  have hr := rowT_at _ _ _ _ _ _ _ _ _ _ _ b _ _ _ hR h10 h88 hS h183 h184 (sT_at oh p n0 n1 X0 X1 X2 o ho hp h0 h1) (nT_at oh o ho) r
    (kernel_sum_pos (fun j => Real.log 2 * ((∑ k, (cat3 X0 X1 X2 (J r) k * kap) * cat3 X0 X1 X2 j k) + b r)) (J r)) (hc r)
  rw [hk] at hr
  show keepT _ (ix2 r 0) * rowT _ _ _ _ _ _ _ _ (ix2 r 0) = _
  rw [hr, keepT_at _ _ h184 r, ← EReal.coe_mul]

end point

end Cert.Loss
-- ==== Proof.KernTot.lean ====
module

public import proofs.«01_k».proof.Proof.KernRun
public import Idealize.ShloMosaic.Lib.Pipeline.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Loss

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## The blocks, and the totals over the whole run -/

/-- Where each window's block stands at each point. -/
theorem idx : ∀ t : Fin cfg0.N, win0_0.index t = ![0, 0] ∧ win0_1.index t = ![min t.val 7, 0] ∧ win0_2.index t = ![max t.val 8 - 8, 0]
    ∧ win0_3.index t = ![0, 0] ∧ win0_4.index t = ![0, 0] ∧ win0_5.index t = ![0, 0] ∧ win0_6.index t = ![0, 0] :=
  (by decide +kernel : ∀ t : Fin grid0.N, _)

/-- The array of window 0, as the region finds it. -/
def arr0 (c : Dev nD) : Vec F S6144x128 .bf16 := V m c main_v54

/-- The array of window 3, as the region finds it. -/
def arr3 (c : Dev nD) : Vec F S2048x136 .bf16 := V m c main_v61

/-- The array of window 4, as the region finds it. -/
def arr4 (c : Dev nD) : Vec F S2048x136 .bf16 := V m c main_v66

/-- The array of window 5, as the region finds it. -/
def arr5 (c : Dev nD) : Vec F S2048x136 .bf16 := V m c main_v71

/-- The one-hot table is read whole at every point. -/
theorem iblk0 (c : Dev nD) (t : Fin cfg0.N) : (iblk m c 0 t : Vec F S6144x128 .bf16) = arr0 m c := by
  funext y
  show (((cfg0.win 0).blk t).view.read (Elt F) (V m c main_v54)) y = V m c main_v54 y
  generalize V m c main_v54 = X
  blk_ext [idx t]

/-- The first segment is read whole at every point. -/
theorem iblk3 (c : Dev nD) (t : Fin cfg0.N) : (iblk m c 3 t : Vec F S2048x136 .bf16) = arr3 m c := by
  funext y
  show (((cfg0.win 3).blk t).view.read (Elt F) (V m c main_v61)) y = V m c main_v61 y
  generalize V m c main_v61 = X
  blk_ext [idx t]

/-- The second segment is read whole at every point. -/
theorem iblk4 (c : Dev nD) (t : Fin cfg0.N) : (iblk m c 4 t : Vec F S2048x136 .bf16) = arr4 m c := by
  funext y
  show (((cfg0.win 4).blk t).view.read (Elt F) (V m c main_v66)) y = V m c main_v66 y
  generalize V m c main_v66 = X
  blk_ext [idx t]

/-- The third segment is read whole at every point. -/
theorem iblk5 (c : Dev nD) (t : Fin cfg0.N) : (iblk m c 5 t : Vec F S2048x136 .bf16) = arr5 m c := by
  funext y
  show (((cfg0.win 5).blk t).view.read (Elt F) (V m c main_v71)) y = V m c main_v71 y
  generalize V m c main_v71 = X
  blk_ext [idx t]

/-- What point `t` adds to the totals. -/
def vecAt (c : Dev nD) (t : Fin cfg0.N) : FVec F S1x128 .f32 :=
  vecT (grid0.coords t) (arr0 m c) (iblk m c 1 t) (iblk m c 2 t) (arr3 m c) (arr4 m c) (arr5 m c)
    (sT (arr0 m c) (arr3 m c) (arr4 m c) (arr5 m c)) (nT (arr0 m c))

/-- The totals after point `n`. -/
def totals (c : Dev nD) : (n : ℕ) → n < cfg0.N → FVec F S1x128 .f32
  | 0, h => k0_pay1 (vecAt m c ⟨0, h⟩)
  | n + 1, h => k0_pay2 (vecAt m c ⟨n + 1, h⟩) (totals c n (Nat.lt_of_succ_lt h))

/-- The class sums and sizes stay, the totals run. -/
theorem carried (c : Dev nD) : ∀ (n : ℕ) (h : n < cfg0.N), (outsAt0 m c n h).2.1 = totals m c n h
    ∧ (outsAt0 m c n h).2.2.1 = sT (arr0 m c) (arr3 m c) (arr4 m c) (arr5 m c)
    ∧ (outsAt0 m c n h).2.2.2 = nT (arr0 m c)
  | 0, h => by
    have h0 : (⟨0, h⟩ : Fin cfg0.N).val % 16 = 0 := rfl
    have h2 : ¬ 1 ≤ (⟨0, h⟩ : Fin cfg0.N).val := by show ¬ 1 ≤ 0; omega
    have h3 : ¬ (⟨0, h⟩ : Fin cfg0.N).val % 16 = 15 := by show ¬ 0 % 16 = 15; omega
    have ea := acc_A m c ⟨0, h⟩ h0 h2 h3
    have es := cls_A m c ⟨0, h⟩ h0 h2 h3
    have en := cnt_A m c ⟨0, h⟩ h0 h2 h3
    simp only [iblk0, iblk3, iblk4, iblk5] at ea es en
    exact ⟨ea, es, en⟩
  | n + 1, h => by
    obtain ⟨ia, is, iN⟩ := carried c n (Nat.lt_of_succ_lt h)
    have hN : n + 1 < 16 := lt_of_lt_of_eq h (show cfg0.N = 16 from N_0)
    have h0 : ¬ (⟨n + 1, h⟩ : Fin cfg0.N).val % 16 = 0 := by show ¬ (n + 1) % 16 = 0; omega
    have h2 : 1 ≤ (⟨n + 1, h⟩ : Fin cfg0.N).val := by show 1 ≤ n + 1; omega
    by_cases h3 : (⟨n + 1, h⟩ : Fin cfg0.N).val % 16 = 15
    · have ea := acc_C m c ⟨n + 1, h⟩ h0 h2 h3
      have es := cls_C m c ⟨n + 1, h⟩ h0 h2 h3
      have en := cnt_C m c ⟨n + 1, h⟩ h0 h2 h3
      simp only [iblk0, iblk3, iblk4, iblk5, Nat.add_sub_cancel, ia, is, iN] at ea es en
      exact ⟨ea, es, en⟩
    · have ea := acc_B m c ⟨n + 1, h⟩ h0 h2 h3
      have es := cls_B m c ⟨n + 1, h⟩ h0 h2 h3
      have en := cnt_B m c ⟨n + 1, h⟩ h0 h2 h3
      simp only [iblk0, iblk3, iblk4, iblk5, Nat.add_sub_cancel, ia, is, iN] at ea es en
      exact ⟨ea, es, en⟩

/-- The last point stores the quotient of the totals after it. -/
theorem out_last (c : Dev nD) : ∀ (n : ℕ) (h : n < cfg0.N) (_ : n % 16 = 15), (outsAt0 m c n h).1 = k0_pay3 (totals m c n h)
  | 0, _, h3 => absurd h3 (by norm_num)
  | n + 1, h, h3 => by
    obtain ⟨ia, is, iN⟩ := carried m c n (Nat.lt_of_succ_lt h)
    have h0 : ¬ (⟨n + 1, h⟩ : Fin cfg0.N).val % 16 = 0 := by show ¬ (n + 1) % 16 = 0; omega
    have h2 : 1 ≤ (⟨n + 1, h⟩ : Fin cfg0.N).val := by show 1 ≤ n + 1; omega
    have eo := out_C m c ⟨n + 1, h⟩ h0 h2 h3
    simp only [iblk0, iblk3, iblk4, iblk5, Nat.add_sub_cancel, ia, is, iN] at eo
    exact eo

/-- The totals depend on the number of the point only. -/
theorem totals_congr (c : Dev nD) (a b : ℕ) (ha : a < cfg0.N) (hb : b < cfg0.N) (e : a = b) : totals m c a ha = totals m c b hb := by
  subst e; rfl

/-- The output array after the run: the quotient of the totals. -/
theorem final (c : Dev nD) : (dats m 0 c).arrAt 6 (cfgs 0).N = k0_pay3 (totals m c 15 (by rw [show cfg0.N = 16 from N_0]; norm_num)) := by
  refine (dats m 0 c).arrAt_eq_of_covers 6 _ (by decide +kernel) fun t hf y => ?_
  have h15 : t.val % 16 = 15 := (flush0_6 t).mp hf
  blk_simp
  rw [after0_6]
  have hN : t.val < 16 := lt_of_lt_of_eq t.isLt (show cfg0.N = 16 from N_0)
  rw [out_last m c t.val t.isLt h15, totals_congr m c t.val 15 t.isLt (by rw [show cfg0.N = 16 from N_0]; norm_num) (by omega)]
  generalize k0_pay3 (totals m c 15 _) = X
  blk_ext [idx t]

end Cert.Loss
-- ==== Proof.KernOut.lean ====
module

public import proofs.«01_k».proof.Proof.KernTot
public import Idealize.ShloMosaic.Lib.Claim
public import Idealize.ShloMosaic.Lib.Pointwise
public import Idealize.ShloMosaic.Lib.StableHlo.RunRead
public import Idealize.ShloMosaic.Lib.StableHlo.ReadAt

@[expose] public section

set_option maxRecDepth 16384

noncomputable section

namespace Cert.Loss

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The result buffer after the host operations behind the region: the first lane of the output array. -/
theorem tail (c : Dev nD) : Pipeline.afterTail₀ cfgs (dats m) 0 (V0 m) [hostOps1] c main_v74
    = shapeCast S_ (extractStridedSlice S1x1 ![0, 0] (k0_pay3 (totals m c 15 (by rw [show cfg0.N = 16 from N_0]; norm_num))) slices_S1x128_S1x1_0_0) shapeCasts_S1x1_S_ := by
  rw [← final]
  unfold Pipeline.afterTail₀
  simp only [StableHlo.after_cons, StableHlo.after_nil, List.flatten_cons, List.flatten_nil, List.append_nil, hostOps1, List.singleton_append, List.cons_append, List.nil_append]
  after_results_simp
  have e : Pipeline.withArrays (cfgs 0).spec c (V0 m c) (fun w => (dats m 0 c).arrAt w (cfgs 0).N) (Proc.tc.devRef main_v72)
      = (dats m 0 c).arrAt 6 (cfgs 0).N :=
    Pipeline.withArrays_arr (cfgs 0).spec (by decide) c (V0 m c) (fun w => (dats m 0 c).arrAt w (cfgs 0).N) 6
  rw [e]
  rfl

end Cert.Loss
-- ==== Proof.Order.lean ====
module

public import proofs.«01_k».proof.Proof.Maths
public import Idealize.ShloMosaic.Lib.SortFacts
public import Idealize.ShloMosaic.Lib.PlanTiles.StableSort
public import Idealize.ShloMosaic.Lib.Routing.Count

@[expose] public section

noncomputable section

namespace Cert.Loss

open Idealize.ShloMosaic

/-- How many of the first `k` entries of the 0/1 vector `μ` are one. -/
def ones (μ : ℕ → ℕ) (k : ℕ) : ℕ := Nat.count (fun i => μ i = 1) k

/-- Where entry `k` stands once the ones are moved, in order, ahead of the others. -/
def posOf (μ : ℕ → ℕ) (k : ℕ) : ℕ := if μ k = 1 then ones μ k else ones μ 2048 + (k - ones μ k)

/-- Among the first `k` entries at most `k` are one. -/
theorem ones_le (μ : ℕ → ℕ) (k : ℕ) : ones μ k ≤ k := Nat.count_le _

/-- More entries hold no fewer ones. -/
theorem ones_mono (μ : ℕ → ℕ) {a b : ℕ} (h : a ≤ b) : ones μ a ≤ ones μ b := Nat.count_monotone _ h

/-- The sum of a 0/1 vector counts its ones. -/
theorem sum_ones (μ : ℕ → ℕ) (N : ℕ) (h : ∀ k, k < N → μ k ≤ 1) : ((List.range N).map μ).sum = ones μ N := by
  unfold ones
  induction N with
  | zero => simp
  | succ N ih =>
    rw [List.range_succ, List.map_append, List.sum_append, ih fun k hk => h k (by omega), Nat.count_succ]
    have := h N (by omega)
    by_cases h1 : μ N = 1
    · simp [h1]
    · have h0 : μ N = 0 := by omega
      simp [h0]

/-- Counting only below `k`. -/
theorem count_below (P : ℕ → Prop) [DecidablePred P] (k N : ℕ) :
    Nat.count (fun a => P a ∧ a < k) N = Nat.count P (min k N) := by
  induction N with
  | zero => simp
  | succ N ih =>
    rw [Nat.count_succ, ih]
    by_cases hk : N < k
    · rw [show min k N = N by omega, show min k (N + 1) = N + 1 by omega, Nat.count_succ]
      by_cases hP : P N <;> simp [hP, hk]
    · rw [show min k N = k by omega, show min k (N + 1) = k by omega]
      simp [hk]

/-- Counting the ones together with the zeros below `k`. -/
theorem count_either (μ : ℕ → ℕ) (hμ : ∀ k, μ k ≤ 1) (k N : ℕ) :
    Nat.count (fun a => μ a = 1 ∨ (μ a = 0 ∧ a < k)) N = ones μ N + (min k N - ones μ (min k N)) := by
  unfold ones
  induction N with
  | zero => simp
  | succ N ih =>
    rw [Nat.count_succ, ih, Nat.count_succ]
    have hle := ones_le μ N
    unfold ones at hle
    have hN := hμ N
    by_cases hk : N < k
    · rw [show min k N = N by omega, show min k (N + 1) = N + 1 by omega, Nat.count_succ]
      by_cases h1 : μ N = 1
      · simp only [h1, true_or, if_true]; omega
      · have h0 : μ N = 0 := by omega
        simp only [h0, hk]; simp; omega
    · rw [show min k N = k by omega, show min k (N + 1) = k by omega]
      by_cases h1 : μ N = 1
      · simp only [h1, true_or, if_true]; omega
      · simp [h1, hk]

/-- A place is one of the 2048. -/
theorem posOf_lt (μ : ℕ → ℕ) (hμ : ∀ k, μ k ≤ 1) (k : ℕ) (hk : k < 2048) : posOf μ k < 2048 := by
  unfold posOf
  by_cases h1 : μ k = 1
  · rw [if_pos h1]; exact lt_of_le_of_lt (ones_le μ k) hk
  · rw [if_neg h1]
    have h2 := count_either μ hμ k 2048
    rw [show min k 2048 = k by omega] at h2
    rw [← h2]
    refine lt_of_le_of_ne (Nat.count_le _) fun h => ?_
    rcases Nat.count_iff_forall.mp h k hk with h | h
    · exact h1 h
    · exact lt_irrefl _ h.2

/-- Being sorted by descending key, equal keys in their old order, as a fact about two places. -/
theorem sortedFrom_lex {n : ℕ} (G : Fin n → ℕ) (i j : Fin n) (hij : i < j) :
    PlanTiles.Lex G (· < ·) (sortedFrom (fun a b => decide (G b < G a)) i) (sortedFrom (fun a b => decide (G b < G a)) j) :=
  List.pairwise_iff_get.mp
    (PlanTiles.pairwise_stableSort_lex G (· < ·) (List.finRange n) (List.pairwise_lt_finRange n))
    (i.cast (length_sortPositions n _).symm) (j.cast (length_sortPositions n _).symm) hij

/-- The place of an entry in a sorted order is the number of entries that stand before it. -/
theorem place_eq_card {n : ℕ} (G : Fin n → ℕ) (σ : Fin n → Fin n) (hσ : Function.Bijective σ)
    (hlt : ∀ i j, i < j → PlanTiles.Lex G (· < ·) (σ i) (σ j)) (i : Fin n) :
    i.val = (Finset.univ.filter fun a : Fin n => G (σ i) < G a ∨ (G a = G (σ i) ∧ a < σ i)).card := by
  have hirr : ∀ a : Fin n, ¬ PlanTiles.Lex G (· < ·) a a := fun a h => by
    rcases h with h | h
    · exact lt_irrefl _ h
    · exact lt_irrefl _ h.2
  have hasy : ∀ a b : Fin n, PlanTiles.Lex G (· < ·) a b → ¬ PlanTiles.Lex G (· < ·) b a := fun a b h h' => by
    unfold PlanTiles.Lex at h h'
    rcases h with h | h <;> rcases h' with h' | h'
    · omega
    · omega
    · omega
    · exact absurd h.2 (lt_asymm h'.2)
  have e : (Finset.univ.filter fun a : Fin n => G (σ i) < G a ∨ (G a = G (σ i) ∧ a < σ i)) = (Finset.univ.filter fun j : Fin n => j < i).image σ := by
    ext a
    simp only [Finset.mem_filter, Finset.mem_univ, true_and, Finset.mem_image]
    constructor
    · intro h
      obtain ⟨j, rfl⟩ := hσ.2 a
      refine ⟨j, ?_, rfl⟩
      rcases lt_trichotomy j i with h1 | h1 | h1
      · exact h1
      · exact absurd h (h1 ▸ hirr _)
      · exact absurd h (hasy _ _ (hlt _ _ h1))
    · rintro ⟨j, hj, rfl⟩
      exact hlt _ _ hj
  rw [e, Finset.card_image_of_injective _ hσ.1]
  rw [show (Finset.univ.filter fun j : Fin n => j < i) = Finset.Iio i from by ext; simp]
  simp

/-- The stable sort that puts larger entries first carries entry `k` to `posOf μ k`. -/
theorem sorted_posOf (μ : ℕ → ℕ) (hμ : ∀ k, μ k ≤ 1) (k : Fin 2048) :
    sortedFrom (fun a b : Fin 2048 => decide (μ b.val < μ a.val)) ⟨posOf μ k.val, posOf_lt μ hμ k.val k.isLt⟩ = k := by
  obtain ⟨i, hi⟩ := sortedFrom_surjective (fun a b : Fin 2048 => decide (μ b.val < μ a.val)) k
  have hc := place_eq_card (fun a : Fin 2048 => μ a.val) _
    ⟨sortedFrom_injective (fun a b : Fin 2048 => decide (μ b.val < μ a.val)), sortedFrom_surjective _⟩
    (sortedFrom_lex (fun a : Fin 2048 => μ a.val)) i
  rw [hi] at hc
  have hq : (Finset.univ.filter fun a : Fin 2048 => μ k.val < μ a.val ∨ (μ a.val = μ k.val ∧ a < k))
      = Finset.univ.filter fun a : Fin 2048 => (μ k.val < μ a.val ∨ (μ a.val = μ k.val ∧ a.val < k.val)) := rfl
  rw [hq, Routing.card_filter_fin 2048 (fun a => μ k.val < μ a ∨ (μ a = μ k.val ∧ a < k.val))] at hc
  have : i.val = posOf μ k.val := by
    rw [hc]
    unfold posOf
    have hk := k.isLt
    by_cases h1 : μ k.val = 1
    · rw [if_pos h1]
      have h2 := count_below (fun a => μ a = 1) k.val 2048
      rw [show min k.val 2048 = k.val by omega] at h2
      unfold ones
      rw [← h2]
      refine Routing.count_congr_of_lt _ fun a _ => ?_
      have := hμ a
      rw [h1]
      constructor
      · rintro (h | h)
        · omega
        · exact h
      · exact fun h => Or.inr h
    · have h0 : μ k.val = 0 := by have := hμ k.val; omega
      rw [if_neg h1]
      have h2 := count_either μ hμ k.val 2048
      rw [show min k.val 2048 = k.val by omega] at h2
      rw [← h2]
      refine Routing.count_congr_of_lt _ fun a _ => ?_
      have := hμ a
      rw [h0]
      constructor
      · rintro (h | h)
        · left; omega
        · exact Or.inr h
      · rintro (h | h)
        · left; omega
        · exact Or.inr h
  have e : (⟨posOf μ k.val, posOf_lt μ hμ k.val k.isLt⟩ : Fin 2048) = i := Fin.ext this.symm
  rw [e]
  exact hi

/-- The places are a permutation. -/
def place (μ : ℕ → ℕ) (hμ : ∀ k, μ k ≤ 1) : Equiv.Perm (Fin 2048) :=
  Equiv.ofBijective (fun k => ⟨posOf μ k.val, posOf_lt μ hμ k.val k.isLt⟩)
    (Finite.injective_iff_bijective.mp fun a b h => by
      have h1 := sorted_posOf μ hμ a
      have h2 := sorted_posOf μ hμ b
      rw [h] at h1
      exact h1.symm.trans h2)

/-- The permutation's value at an entry. -/
theorem place_apply (μ : ℕ → ℕ) (hμ : ∀ k, μ k ≤ 1) (k : Fin 2048) :
    place μ hμ k = ⟨posOf μ k.val, posOf_lt μ hμ k.val k.isLt⟩ := rfl

/-- In a sorted list the entries equal to `g` are those between the counts of the smaller and of the not larger ones. -/
theorem between_iff (γ : ℕ → ℕ) (hs : ∀ a b, a ≤ b → b < 2048 → γ a ≤ γ b) (p g : ℕ) (hp : p < 2048) :
    (Nat.count (fun i => γ i < g) 2048 ≤ p ∧ p < Nat.count (fun i => γ i < g + 1) 2048) ↔ γ p = g := by
  have h1 := Routing.lt_count_iff (N := 2048) (Q := fun i => γ i < g) (fun a b hab hb h => lt_of_le_of_lt (hs a b hab hb) h) hp
  have h2 := Routing.lt_count_iff (N := 2048) (Q := fun i => γ i < g + 1) (fun a b hab hb h => lt_of_le_of_lt (hs a b hab hb) h) hp
  rw [← h2, ← not_lt, ← h1]
  omega

end Cert.Loss
-- ==== Proof.KernHost.lean ====
module

public import proofs.«01_k».proof.Proof.KernTot
public import proofs.«01_k».proof.Proof.KernRows
public import proofs.«01_k».proof.Proof.Order
public import Idealize.ShloMosaic.Lib.Claim
public import Idealize.ShloMosaic.Lib.Routing.Ops
public import Idealize.ShloMosaic.Lib.Tactic.WordOmega
public import Idealize.ShloMosaic.Lib.Pointwise
public import Idealize.ShloMosaic.Lib.StableHlo.RunRead
public import Idealize.ShloMosaic.Lib.StableHlo.ReadAt

@[expose] public section

set_option maxRecDepth 16384

noncomputable section

namespace Cert.Loss

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Three tables stacked. -/
def stackT (a b c : IVec S2048x128 1) : IVec S6144x128 1 :=
  concatenate S6144x128 0 [⟨S2048x128, a⟩, ⟨S2048x128, b⟩, ⟨S2048x128, c⟩] concatenates_S2048x128_S2048x128_S2048x128_S6144x128_d0

/-- Three columns stacked. -/
def flagsT (a b c : IVec S2048 1) : IVec S6144 1 :=
  concatenate S6144 0 [⟨S2048, a⟩, ⟨S2048, b⟩, ⟨S2048, c⟩] concatenates_S2048_S2048_S2048_S6144_d0

/-- The operation that stacks the three tables computes `stackT` of them. -/
theorem stack_read (h1 h2) (V : Valuation τ sig (Elt Ideal)) :
    (StableHlo.nary (τ := τ) ![main_v23, main_v29, main_v43] main_v52 (fun u => (concatenate S6144x128 0 [⟨S2048x128, (u 0 : (⟨S2048x128, .i1⟩ : BufTy).Contents (Elt Ideal))⟩, ⟨S2048x128, (u 1 : (⟨S2048x128, .i1⟩ : BufTy).Contents (Elt Ideal))⟩, ⟨S2048x128, (u 2 : (⟨S2048x128, .i1⟩ : BufTy).Contents (Elt Ideal))⟩] concatenates_S2048x128_S2048x128_S2048x128_S6144x128_d0 : (⟨S6144x128, .i1⟩ : BufTy).Contents (Elt Ideal))) h1 h2).result V (no_index (Proc.devRef .tc main_v52))
      = stackT (V (Proc.devRef .tc main_v23)) (V (Proc.devRef .tc main_v29)) (V (Proc.devRef .tc main_v43)) :=
  StableHlo.nary_result _ _ _ _ _ _

/-- The operation that stacks the three columns computes `flagsT` of them. -/
theorem flags_read (h1 h2) (V : Valuation τ sig (Elt Ideal)) :
    (StableHlo.nary (τ := τ) ![main_v45, main_v46, main_v47] main_v48 (fun u => (concatenate S6144 0 [⟨S2048, (u 0 : (⟨S2048, .i1⟩ : BufTy).Contents (Elt Ideal))⟩, ⟨S2048, (u 1 : (⟨S2048, .i1⟩ : BufTy).Contents (Elt Ideal))⟩, ⟨S2048, (u 2 : (⟨S2048, .i1⟩ : BufTy).Contents (Elt Ideal))⟩] concatenates_S2048_S2048_S2048_S6144_d0 : (⟨S6144, .i1⟩ : BufTy).Contents (Elt Ideal))) h1 h2).result V (no_index (Proc.devRef .tc main_v48))
      = flagsT (V (Proc.devRef .tc main_v45)) (V (Proc.devRef .tc main_v46)) (V (Proc.devRef .tc main_v47)) :=
  StableHlo.nary_result _ _ _ _ _ _

/-- The running count of the mask, without the entry itself. -/
def beforeT (msk : IVec S2048 32) : IVec S2048 32 :=
  subi (Host.reduceWindow IntOp.addi ![2048] ![1] ![2047] ![0] msk (broadcastInDim S_ ![] bcast_S_S_ (constantI S_ 32 0#32))
    reduceWindows_S2048_S2048_w2048s1p2047_0 h_S_) msk

/-- Where every entry stands once the masked ones are moved to the front. -/
def posT (msk : IVec S2048 32) : IVec S2048 32 :=
  select (cmpi CmpIPredicate.eq msk (broadcastInDim S2048 ![] bcast_S_S2048 (constantI S_ 32 1#32))) (beforeT msk)
    (addi (broadcastInDim S2048 ![] bcast_S_S2048 (Host.reduce IntOp.addi msk (constantI S_ 32 0#32) reducesTo_S2048_S_d0 h_S_))
      (subi (iotaInDim S2048 32 0) (beforeT msk)))

/-- For every bound the number of group ids below it. -/
def bndT (gid : IVec S2048 32) : IVec S17 32 :=
  Host.reduce IntOp.addi (extui 32 (cmpi CmpIPredicate.slt
      (broadcastInDim S17x2048 ![0, 1] bcast_S1x2048_S17x2048_0_1 (broadcastInDim S1x2048 ![1] bcast_S2048_S1x2048_1 gid))
      (broadcastInDim S17x2048 ![0, 1] bcast_S17x1_S17x2048_0_1 (broadcastInDim S17x1 ![0] bcast_S17_S17x1_0 (iotaInDim S17 32 0)))) natLt_1_32)
    (constantI S_ 32 0#32) reducesTo_S17x2048_S17_d1 h_S_

/-- The membership table of the entries' places between the bounds. -/
def rangeT (pos : IVec S2048 32) (bnd : IVec S17 32) : IVec S2048x128 1 :=
  pad S2048x128 ![0, 80] ![0, 32] ![0, 0]
    (andi
      (cmpi CmpIPredicate.sge
        (broadcastInDim S2048x16 ![0, 1] bcast_S2048x1_S2048x16_0_1 (broadcastInDim S2048x1 ![0] bcast_S2048_S2048x1_0 pos))
        (broadcastInDim S2048x16 ![0, 1] bcast_S1x16_S2048x16_0_1
          (broadcastInDim S1x16 ![1] bcast_S16_S1x16_1 (extractStridedSlice S16 ![0] bnd slices_S17_S16_0))))
      (cmpi CmpIPredicate.slt
        (broadcastInDim S2048x16 ![0, 1] bcast_S2048x1_S2048x16_0_1 (broadcastInDim S2048x1 ![0] bcast_S2048_S2048x1_0 pos))
        (broadcastInDim S2048x16 ![0, 1] bcast_S1x16_S2048x16_0_1
          (broadcastInDim S1x16 ![1] bcast_S16_S1x16_1 (extractStridedSlice S16 ![1] bnd slices_S17_S16_1)))))
    (id (cmpi CmpIPredicate.ne (constantI S_ 32 0#32) (broadcastInDim S_ ![] bcast_S_S_ (constantI S_ 32 0#32))))
    pads_S2048x16_S2048x128_000_80320 h_S_

/-- The one-hot table of a vector of class numbers. -/
def hotT (cls : IVec S2048 32) : IVec S2048x128 1 :=
  cmpi CmpIPredicate.eq
    (broadcastInDim S2048x128 ![0, 1] bcast_S2048x1_S2048x128_0_1 (broadcastInDim S2048x1 ![0] bcast_S2048_S2048x1_0 cls))
    (broadcastInDim S2048x128 ![0, 1] bcast_S1x128_S2048x128_0_1 (broadcastInDim S1x128 ![1] bcast_S128_S1x128_1 (iotaInDim S128 32 0)))

/-- The table the kernel reads: one-hot classes, and the row weights in lane 96. -/
def tableT (flags : IVec S6144 1) (st : IVec S6144x128 1) : FVec Ideal S6144x128 .bf16 :=
  uitofp FTy.bf16
    (select
      (broadcastInDim S6144x128 ![0, 1] bcast_S1x128_S6144x128_0_1
        (cmpi CmpIPredicate.eq (broadcastInDim S1x128 ![1] bcast_S128_S1x128_1 (iotaInDim S128 32 0))
          (broadcastInDim S1x128 ![] bcast_S_S1x128 (constantI S_ 32 96#32))))
      (broadcastInDim S6144x128 ![0, 1] bcast_S6144x1_S6144x128_0_1 (broadcastInDim S6144x1 ![0] bcast_S6144_S6144x1_0 flags))
      st)

/-- The rows that count, by their probability. -/
def probT (prob : FVec Ideal S2048 .f32) : IVec S2048 1 :=
  cmpf CmpFPredicate.oge prob (broadcastInDim S2048 ![] bcast_S_S2048 (constant S_ FTy.f32 1056964608#32))

/-- The table that the launch is handed, as those functions of the arguments. -/
theorem arr0_eq (c : Dev nD) : arr0 m c = tableT
    (flagsT (probT (m (c, Proc.tc.devRef main_arg2))) (broadcastInDim S2048 ![] bcast_S_S2048 (constantI S_ 1 1#1))
      (broadcastInDim S2048 ![] bcast_S_S2048 (constantI S_ 1 0#1)))
    (stackT (hotT (m (c, Proc.tc.devRef main_arg1)))
      (hotT (addi (m (c, Proc.tc.devRef main_arg5)) (broadcastInDim S2048 ![] bcast_S_S2048 (constantI S_ 32 80#32))))
      (rangeT (posT (m (c, Proc.tc.devRef main_arg6))) (bndT (m (c, Proc.tc.devRef main_arg5))))) := by
  unfold arr0
  entry_read
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append]
  simp (disch := decide) only [StableHlo.readAfter, StableHlo.readUpto, StableHlo.nullary_result', StableHlo.unary_result', StableHlo.binary_result', StableHlo.ternary_result', StableHlo.reshape_result', StableHlo.unaryIndexed_result', StableHlo.binaryIndexed_result', stack_read, flags_read]
  simp -implicitDefEqProofs only [StableHlo.TRef.toBuf, StableHlo.TRef.ofBuf, cast_cast, cast_eq]
  clean_types
  rfl

/-- Signed words 0 and 1 read as numbers. -/
theorem sitofp_zero (f : FTy) : (FloatOps.sitofp f (0#32) : Ideal f) = 0 := by
  show ((((0#32 : BitVec 32).toInt : ℤ) : ℝ) : EReal) = 0
  simp

/-- The choice that puts a one in lane 128 behind 128 features. -/
theorem aug_select (f : ∀ k : ℕ, k < 128 → EReal) (k : Fin 136) :
    (Scalar.select (IntOp.cmpi CmpIPredicate.eq (BitVec.ofNat 32 k.val) 128#32) (1 : EReal)
      (if h : k.val < 128 then f k.val h else (FloatOps.sitofp FTy.bf16 (0#32) : Ideal .bf16)))
    = if h : k.val < 128 then f k.val h else if k.val = 128 then 1 else 0 := by
  have hk := k.isLt
  rw [show (128#32 : BitVec 32) = BitVec.ofNat 32 128 from rfl, cmpi_eq_ofNat k.val 128 (by omega) (by omega), sitofp_zero]
  by_cases h1 : k.val = 128
  · simp [h1, Scalar.select]
  · simp [h1, Scalar.select]

/-- The augmented rows of argument 0: the features, a one, zeros. -/
theorem arr3_at (c : Dev nD) (X : Fin 2048 → Fin 128 → ℝ) (hX : ∀ q k, (m (c, Proc.tc.devRef main_arg0) : FVec Ideal S2048x128 .f32) (ix2 q k) = ((X q k : ℝ) : EReal))
    (q : Fin 2048) (k : Fin 136) : arr3 m c (ix2 q k) = augRow (X q) 1 k := by
  unfold arr3
  entry_read
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append]
  after_reads_simp
  simp -implicitDefEqProofs only [StableHlo.TRef.toBuf, StableHlo.TRef.ofBuf, cast_cast, cast_eq]
  clean_types
  pointwise [hX]
  exact (aug_select (fun k h => ((X q ⟨k, h⟩ : ℝ) : EReal)) k).trans (by unfold augRow; simp)

/-- The augmented rows of argument 3: the features, a one, zeros. -/
theorem arr4_at (c : Dev nD) (X : Fin 2048 → Fin 128 → ℝ) (hX : ∀ q k, (m (c, Proc.tc.devRef main_arg3) : FVec Ideal S2048x128 .f32) (ix2 q k) = ((X q k : ℝ) : EReal))
    (q : Fin 2048) (k : Fin 136) : arr4 m c (ix2 q k) = augRow (X q) 1 k := by
  unfold arr4
  entry_read
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append]
  after_reads_simp
  simp -implicitDefEqProofs only [StableHlo.TRef.toBuf, StableHlo.TRef.ofBuf, cast_cast, cast_eq]
  clean_types
  pointwise [hX]
  exact (aug_select (fun k h => ((X q ⟨k, h⟩ : ℝ) : EReal)) k).trans (by unfold augRow; simp)

/-- The augmented rows of argument 4: the features, a one, zeros. -/
theorem arr5_at (c : Dev nD) (X : Fin 2048 → Fin 128 → ℝ) (hX : ∀ q k, (m (c, Proc.tc.devRef main_arg4) : FVec Ideal S2048x128 .f32) (ix2 q k) = ((X q k : ℝ) : EReal))
    (q : Fin 2048) (k : Fin 136) : arr5 m c (ix2 q k) = augRow (X q) 1 k := by
  unfold arr5
  entry_read
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append]
  after_reads_simp
  simp -implicitDefEqProofs only [StableHlo.TRef.toBuf, StableHlo.TRef.ofBuf, cast_cast, cast_eq]
  clean_types
  pointwise [hX]
  exact (aug_select (fun k h => ((X q ⟨k, h⟩ : ℝ) : EReal)) k).trans (by unfold augRow; simp)

end Cert.Loss
-- ==== Proof.KernEnd.lean ====
module

public import proofs.«01_k».proof.Proof.KernVal
public import proofs.«01_k».proof.Proof.KernOut
public import proofs.«01_k».proof.Proof.KernHost

@[expose] public section

set_option maxRecDepth 16384

noncomputable section

namespace Cert.Loss

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## The rows of a block -/

/-- Window 1 finds the first argument as it was launched. -/
theorem start0 (c : Dev nD) : (V m c main_arg0 : Vec Ideal S2048x128 .f32) = m (c, Proc.tc.devRef main_arg0) := by
  entry_read
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append]
  after_reads_simp

/-- Window 2 finds the fourth argument as it was launched. -/
theorem start3 (c : Dev nD) : (V m c main_arg3 : Vec Ideal S2048x128 .f32) = m (c, Proc.tc.devRef main_arg3) := by
  entry_read
  simp only [List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.cons_append, List.nil_append]
  after_reads_simp

/-- A row of the block that window 1 reads. -/
theorem iblk1_at (c : Dev nD) (t : Fin cfg0.N) (r : Fin 256) (k : Fin 128) (q : Fin 2048) (hq : q.val = 256 * min t.val 7 + r.val) :
    (iblk m c 1 t : Vec Ideal S256x128 .f32) (ix2 r k) = (m (c, Proc.tc.devRef main_arg0) : Vec Ideal S2048x128 .f32) (ix2 q k) := by
  rw [← start0 m c]
  show (((cfg0.win 1).blk t).view.read (Elt Ideal) (V m c main_arg0)) (ix2 r k) = _
  generalize V m c main_arg0 = X
  blk_ext [idx t, hq]

/-- A row of the block that window 2 reads. -/
theorem iblk2_at (c : Dev nD) (t : Fin cfg0.N) (r : Fin 256) (k : Fin 128) (q : Fin 2048) (hq : q.val = 256 * (max t.val 8 - 8) + r.val) :
    (iblk m c 2 t : Vec Ideal S256x128 .f32) (ix2 r k) = (m (c, Proc.tc.devRef main_arg3) : Vec Ideal S2048x128 .f32) (ix2 q k) := by
  rw [← start3 m c]
  show (((cfg0.win 2).blk t).view.read (Elt Ideal) (V m c main_arg3)) (ix2 r k) = _
  generalize V m c main_arg3 = X
  blk_ext [idx t, hq]

/-- The coordinate of a grid point is its number. -/
theorem coords_val : ∀ t : Fin cfg0.N, (grid0.coords t 0).val = t.val :=
  (by decide +kernel : ∀ t : Fin grid0.N, _)

/-- The choice of a point's block: the first eight points take the first segment. -/
theorem pick_val : ∀ n : Fin 16, Scalar.cmpi .slt (BitVec.ofNat 32 n.val) 8#32 = BitVec.ofBool (decide (n.val < 8)) := by decide +kernel

/-- Row `r` of block `n`. -/
def rowOf (n : Fin 16) (r : Fin 256) : Fin 6144 := ⟨256 * n.val + r.val, by omega⟩

variable (c : Dev nD) (X0 X1 X2 : Fin 2048 → Fin 128 → ℝ)
  (hX0 : ∀ q k, (m (c, Proc.tc.devRef main_arg0) : FVec Ideal S2048x128 .f32) (ix2 q k) = ((X0 q k : ℝ) : EReal))
  (hX1 : ∀ q k, (m (c, Proc.tc.devRef main_arg3) : FVec Ideal S2048x128 .f32) (ix2 q k) = ((X1 q k : ℝ) : EReal))
  (hX2 : ∀ q k, (m (c, Proc.tc.devRef main_arg4) : FVec Ideal S2048x128 .f32) (ix2 q k) = ((X2 q k : ℝ) : EReal))
  (o : Fin 6144 → Fin 128 → ℝ) (ho : ∀ j l, arr0 m c (ix2 j l) = (o j l : EReal))
  (hc : ∀ i, (∑ l, o i l * (if l.val = 96 then 0 else ∑ j, o j l)) ≠ 0)

include hX0 hX1 in
/-- The rows that a point works on. -/
theorem rows_at (t : Fin cfg0.N) (n : Fin 16) (hn : t.val = n.val) (r : Fin 256) (k : Fin 128) :
    k0_pay8 (grid0.coords t) (iblk m c 1 t) (iblk m c 2 t) (ix2 r k) = ((cat3 X0 X1 X2 (rowOf n r) k : ℝ) : EReal) := by
  have e : (grid0.coords t 0) = n := Fin.ext ((coords_val t).trans hn)
  have h8 := pick_val n
  rw [← e] at h8
  have hs : k0_pay8 (grid0.coords t) (iblk m c 1 t) (iblk m c 2 t)
      = Scalar.select (BitVec.ofBool (decide ((grid0.coords t 0).val < 8))) (iblk m c 1 t : Vec Ideal S256x128 .f32) (iblk m c 2 t : Vec Ideal S256x128 .f32) :=
    congrArg (fun b => Scalar.select b (iblk m c 1 t : Vec Ideal S256x128 .f32) (iblk m c 2 t : Vec Ideal S256x128 .f32)) h8
  rw [hs, coords_val t, hn]
  have hr := r.isLt
  have hn' := n.isLt
  by_cases h : n.val < 8
  · rw [decide_eq_true h]
    refine (iblk1_at m c t r k ⟨256 * n.val + r.val, by omega⟩ (by rw [hn]; simp only; omega)).trans ?_
    refine (hX0 _ _).trans (congrArg _ ?_)
    rw [show rowOf n r = ⟨(⟨256 * n.val + r.val, by omega⟩ : Fin 2048).val, by omega⟩ from rfl, cat3_zero]
  · rw [decide_eq_false h]
    refine (iblk2_at m c t r k ⟨256 * (n.val - 8) + r.val, by omega⟩ (by rw [hn]; simp only; omega)).trans ?_
    refine (hX1 _ _).trans (congrArg _ ?_)
    rw [show rowOf n r = ⟨2048 + (⟨256 * (n.val - 8) + r.val, by omega⟩ : Fin 2048).val, by simp only; omega⟩ from Fin.ext (by simp only [rowOf]; omega), cat3_one]

/-- The kept rows' mean log probabilities in a block, in powers of two. -/
def blockLoss (n : Fin 16) : ℝ :=
  ∑ r, o (rowOf n r) 96 * ((Real.log 2)⁻¹ * rowLoss (kap * Real.log 2) (cat3 X0 X1 X2) (sameOf o) (rowOf n r))

/-- How many rows a block keeps. -/
def blockKeep (n : Fin 16) : ℝ := ∑ r, o (rowOf n r) 96

include hX0 hX1 hX2 ho hc in
/-- What a point adds to the totals, as real numbers. -/
theorem vecAt_at (t : Fin cfg0.N) (n : Fin 16) (hn : t.val = n.val) :
    vecAt m c t (ix2 0 0) = ((blockLoss X0 X1 X2 o n : ℝ) : EReal) ∧ vecAt m c t (ix2 0 1) = ((blockKeep o n : ℝ) : EReal) := by
  have e : (grid0.coords t 0) = n := Fin.ext ((coords_val t).trans hn)
  exact vecT_at (grid0.coords t) (arr0 m c) _ _ _ _ _ X0 X1 X2 o ho (arr3_at m c X0 hX0) (arr4_at m c X1 hX1) (arr5_at m c X2 hX2)
    (rowOf n) (fun r => by rw [e]; rfl) (rows_at m c X0 X1 X2 hX0 hX1 t n hn) (fun r => hc _)

include hX0 hX1 hX2 ho hc in
/-- The totals after point `n`. -/
theorem totals_at : ∀ (n : ℕ) (h : n < cfg0.N) (hn : n < 16),
    totals m c n h (ix2 0 0) = ((∑ t : Fin (n + 1), blockLoss X0 X1 X2 o ⟨t.val, by omega⟩ : ℝ) : EReal)
      ∧ totals m c n h (ix2 0 1) = ((∑ t : Fin (n + 1), blockKeep o ⟨t.val, by omega⟩ : ℝ) : EReal)
  | 0, h, hn => by
    obtain ⟨ha, hb⟩ := vecAt_at m c X0 X1 X2 hX0 hX1 hX2 o ho hc ⟨0, h⟩ ⟨0, hn⟩ rfl
    unfold totals k0_pay1
    generalize vecAt m c ⟨0, h⟩ = v at ha hb ⊢
    constructor
    · pointwise [ha]
      simp
    · pointwise [hb]
      simp
  | n + 1, h, hn => by
    obtain ⟨ia, ib⟩ := totals_at n (Nat.lt_of_succ_lt h) (by omega)
    obtain ⟨ha, hb⟩ := vecAt_at m c X0 X1 X2 hX0 hX1 hX2 o ho hc ⟨n + 1, h⟩ ⟨n + 1, hn⟩ rfl
    unfold totals k0_pay2
    generalize vecAt m c ⟨n + 1, h⟩ = v at ha hb ⊢
    generalize totals m c n (Nat.lt_of_succ_lt h) = w at ia ib ⊢
    constructor
    · pointwise [ha, ia]
      rw [Fin.sum_univ_castSucc (n := n + 1), EReal.coe_add]
      rfl
    · pointwise [hb, ib]
      rw [Fin.sum_univ_castSucc (n := n + 1), EReal.coe_add]
      rfl

/-- The quotient that the last point stores. -/
theorem pay3_at (v : Vec Ideal S1x128 .f32) (a b : ℝ) (h0 : v (ix2 0 0) = (a : EReal)) (h1 : v (ix2 0 1) = (b : EReal)) (hb : b ≠ 0) :
    shapeCast S_ (extractStridedSlice S1x1 ![0, 0] (k0_pay3 v) slices_S1x128_S1x1_0_0) shapeCasts_S1x1_S_ ix0 = ((-(Real.log 2 * a) / b : ℝ) : EReal) := by
  unfold k0_pay3
  pointwise [h0, h1]
  rw [show (Named.named κ "ln2" 1060205080#32 : Ideal .f32) = ((Real.log 2 : ℝ) : EReal) from rfl, ← EReal.coe_mul, ← EReal.coe_zero, ← EReal.coe_sub,
    div_coe _ _ hb, zero_sub]

include hX0 hX1 hX2 ho hc in
/-- The kernel's result, as a real number: minus the mean over the kept rows of their mean log probabilities. -/
theorem kernel_value (hk : (∑ i : Fin 4096, o ⟨i.val, by omega⟩ 96) ≠ 0) :
    (Pipeline.afterTail₀ cfgs (dats m) 0 (V0 m) [hostOps1] c main_v74 : FVec Ideal S_ .f32) ix0
      = ((-(∑ i : Fin 4096, o ⟨i.val, by omega⟩ 96 * rowLoss (67108864 / 13421773) (cat3 X0 X1 X2) (sameOf o) ⟨i.val, by omega⟩)
        / (∑ i : Fin 4096, o ⟨i.val, by omega⟩ 96) : ℝ) : EReal) := by
  have hlog : Real.log 2 ≠ 0 := (Real.log_pos (by norm_num)).ne'
  obtain ⟨ha, hb⟩ := totals_at m c X0 X1 X2 hX0 hX1 hX2 o ho hc 15 (by rw [show cfg0.N = 16 from N_0]; norm_num) (by norm_num)
  have eb : (∑ t : Fin 16, blockKeep o ⟨t.val, by omega⟩) = ∑ i : Fin 4096, o ⟨i.val, by omega⟩ 96 :=
    (sum_blocks (fun i : Fin 4096 => o ⟨i.val, by omega⟩ 96)).symm
  have ec : kap * Real.log 2 = 67108864 / 13421773 := by unfold kap; field_simp
  have ea : Real.log 2 * (∑ t : Fin 16, blockLoss X0 X1 X2 o ⟨t.val, by omega⟩)
      = ∑ i : Fin 4096, o ⟨i.val, by omega⟩ 96 * rowLoss (67108864 / 13421773) (cat3 X0 X1 X2) (sameOf o) ⟨i.val, by omega⟩ := by
    rw [sum_blocks, Finset.mul_sum]
    refine Finset.sum_congr rfl fun t _ => ?_
    unfold blockLoss
    rw [Finset.mul_sum]
    refine Finset.sum_congr rfl fun r _ => ?_
    rw [ec]
    show Real.log 2 * (_ * ((Real.log 2)⁻¹ * _)) = _
    field_simp
    rfl
  rw [tail]
  refine (pay3_at _ _ _ ha hb (by rw [eb]; exact hk)).trans ?_
  rw [ea, eb]

end Cert.Loss
-- ==== Proof.KernHostAt.lean ====
module

public import proofs.«01_k».proof.Proof.KernHost

@[expose] public section

set_option maxRecDepth 16384

noncomputable section

namespace Cert.Loss

open Cert.KernelIdeal Cert.KernelIdeal.Gen Idealize.ShloMosaic Idealize.ShloMosaic.TcCoe Idealize.SL.Sem
open Idealize.ShloMosaic.Routing

/-- The two spellings of a position of a column. -/
theorem vix1 {n : ℕ} (a : Fin n) : (ValueIdx.ix1 a : (⟨1, ![n]⟩ : Shape).Idx) = ix1 a := funext fun d => by match d with | ⟨0, _⟩ => rfl
/-- The two spellings of a position of a matrix. -/
theorem vix2 {n k : ℕ} (a : Fin n) (b : Fin k) : (ValueIdx.ix2 a b : (⟨2, ![n, k]⟩ : Shape).Idx) = ix2 a b :=
  funext fun d => by match d with
    | ⟨0, _⟩ => rfl
    | ⟨1, _⟩ => rfl
/-- The two spellings of the position of a scalar. -/
theorem vix0 : (ValueIdx.ix0 : (⟨0, ![]⟩ : Shape).Idx) = ix0 := funext fun d => d.elim0

/-- A small number's word reads, signed, as the number. -/
theorem toInt_small (a : ℕ) (ha : a < 2 ^ 31) : (BitVec.ofNat 32 a).toInt = (a : ℤ) := by
  rw [BitVec.toInt_ofNat']
  exact Int.bmod_eq_of_le (by omega) (by omega)

/-- The signed order of two small words is the order of their numbers. -/
theorem cmpi_slt_ofNat (a b : ℕ) (ha : a < 2 ^ 31) (hb : b < 2 ^ 31) :
    IntOp.cmpi CmpIPredicate.slt (BitVec.ofNat 32 a) (BitVec.ofNat 32 b) = BitVec.ofBool (decide (a < b)) := by
  show BitVec.ofBool ((BitVec.ofNat 32 a).slt (BitVec.ofNat 32 b)) = _
  congr 1
  rw [BitVec.slt_eq_decide, toInt_small a ha, toInt_small b hb]
  simp

/-- The signed order of two small words, the other way round. -/
theorem cmpi_sge_ofNat (a b : ℕ) (ha : a < 2 ^ 31) (hb : b < 2 ^ 31) :
    IntOp.cmpi CmpIPredicate.sge (BitVec.ofNat 32 a) (BitVec.ofNat 32 b) = BitVec.ofBool (decide (b ≤ a)) := by
  show BitVec.ofBool ((BitVec.ofNat 32 b).sle (BitVec.ofNat 32 a)) = _
  congr 1
  rw [BitVec.sle_eq_decide, toInt_small a ha, toInt_small b hb]
  simp

/-- A choice by a truth's word is the choice by the truth. -/
theorem select_ofBool {α : Type} (b : Bool) (x y : α) : Scalar.select (BitVec.ofBool b) x y = if b then x else y := by
  cases b <;> rfl

/-- The running count at an entry, without it, is the number of ones before it. -/
theorem beforeT_at (msk : IVec S2048 32) (μ : ℕ → ℕ) (hμ : ∀ k, μ k ≤ 1) (h : ∀ k : Fin 2048, msk (ix1 k) = BitVec.ofNat 32 (μ k.val)) (k : Fin 2048) :
    beforeT msk (ix1 k) = BitVec.ofNat 32 (ones μ k.val) := by
  have e := cumsum1 (N := 2048) (Nm1 := 2047) rfl msk μ (fun i => (congrArg msk (vix1 i)).trans (h i))
    (broadcastInDim S_ ![] bcast_S_S_ (constantI S_ 32 0#32)) rfl reduceWindows_S2048_S2048_w2048s1p2047_0 h_S_ k
  rw [vix1] at e
  unfold beforeT
  show Host.reduceWindow IntOp.addi ![2048] ![1] ![2047] ![0] msk _ _ _ (ix1 k) - msk (ix1 k) = _
  refine (congrArg₂ (· - ·) e (h k)).trans ?_
  rw [List.range_succ, List.map_append, List.sum_append, sum_ones μ k.val fun a _ => hμ a]
  simp only [List.map_cons, List.map_nil, List.sum_cons, List.sum_nil, Nat.add_zero]
  rw [BitVec.ofNat_add]
  exact BitVec.add_sub_cancel _ _

/-- The kernel's place of every entry. -/
theorem posT_at (msk : IVec S2048 32) (μ : ℕ → ℕ) (hμ : ∀ k, μ k ≤ 1) (h : ∀ k : Fin 2048, msk (ix1 k) = BitVec.ofNat 32 (μ k.val)) (k : Fin 2048) :
    posT msk (ix1 k) = BitVec.ofNat 32 (posOf μ k.val) := by
  have h1 := beforeT_at msk μ hμ h k
  have h2 : Host.reduce IntOp.addi msk (constantI S_ 32 0#32) reducesTo_S2048_S_d0 h_S_ ix0 = BitVec.ofNat 32 (ones μ 2048) := by
    have e := reduce_sum (N := 2048) msk μ (fun i => (congrArg msk (vix1 i)).trans (h i)) reducesTo_S2048_S_d0 h_S_
    rw [vix0, sum_ones μ 2048 fun a _ => hμ a] at e
    exact e
  unfold posT
  generalize beforeT msk = b at *
  generalize Host.reduce IntOp.addi msk (constantI S_ 32 0#32) reducesTo_S2048_S_d0 h_S_ = r at *
  pointwise [h, h1, h2]
  have hk := k.isLt
  have hm := hμ k.val
  have ho := ones_le μ k.val
  rw [show (1#32 : BitVec 32) = BitVec.ofNat 32 1 from rfl, cmpi_eq_ofNat _ _ (by omega) (by omega), select_ofBool]
  unfold posOf
  by_cases h1 : μ k.val = 1
  · simp [h1]
  · simp only [h1, decide_false, if_false, Bool.false_eq_true]
    show BitVec.ofNat 32 (ones μ 2048) + (BitVec.ofNat 32 k.val - BitVec.ofNat 32 (ones μ k.val)) = _
    rw [BitVec.ofNat_add]
    congr 1
    rw [sub_eq_iff_eq_add, ← BitVec.ofNat_add]
    congr 1
    omega

/-- The kernel's bound `g` counts the group ids below `g`. -/
theorem bndT_at (gid : IVec S2048 32) (γ : ℕ → ℕ) (hγ : ∀ k, γ k < 16) (h : ∀ k : Fin 2048, gid (ix1 k) = BitVec.ofNat 32 (γ k.val)) (g : Fin 17) :
    bndT gid (ix1 g) = BitVec.ofNat 32 (Nat.count (fun i => γ i < g.val) 2048) := by
  have hg := g.isLt
  rw [← vix1]
  unfold bndT
  refine reduce_count (n := 17) (m := 2048) (by norm_num) _ _ _ _ g (fun i => γ i < g.val) fun q => ?_
  rw [vix2]
  pointwise [h]
  have := hγ q.val
  rw [cmpi_slt_ofNat _ _ (by omega) (by omega)]
  by_cases h1 : γ q.val < g.val <;> simp [h1]

/-- The membership table, entry by entry. -/
theorem rangeT_at (pos : IVec S2048 32) (bnd : IVec S17 32) (p b : ℕ → ℕ) (hp : ∀ k : Fin 2048, pos (ix1 k) = BitVec.ofNat 32 (p k.val))
    (hb : ∀ g : Fin 17, bnd (ix1 g) = BitVec.ofNat 32 (b g.val)) (hp' : ∀ k : Fin 2048, p k.val < 2048) (hb' : ∀ g, b g ≤ 2048) (k : Fin 2048) (l : Fin 128) :
    rangeT pos bnd (ix2 k l) = BitVec.ofBool (decide (80 ≤ l.val ∧ l.val < 96 ∧ b (l.val - 80) ≤ p k.val ∧ p k.val < b (l.val - 80 + 1))) := by
  unfold rangeT
  pointwise [hp, hb]
  have h0 := hp' k
  have h1 := hb' (l.val - 80)
  have h2 := hb' (1 + (l.val - 80))
  rw [cmpi_slt_ofNat _ _ (by omega) (by omega), cmpi_sge_ofNat _ _ (by omega) (by omega)]
  rw [Nat.add_comm (l.val - 80) 1]
  by_cases hl : 80 ≤ l.val ∧ l.val - 80 < 16
  · rw [dif_pos hl]
    have e1 : 80 ≤ l.val := hl.1
    have e2 : l.val < 96 := by omega
    simp only [e1, e2, true_and]
    by_cases q1 : b (l.val - 80) ≤ p k.val <;> by_cases q2 : p k.val < b (1 + (l.val - 80)) <;> simp only [q1, q2] <;> rfl
  · rw [dif_neg hl, decide_eq_false (fun h => hl ⟨h.1, by omega⟩)]
    rfl

/-- A one-hot table, entry by entry. -/
theorem hotT_at (cls : IVec S2048 32) (γ : ℕ → ℕ) (h : ∀ k : Fin 2048, cls (ix1 k) = BitVec.ofNat 32 (γ k.val)) (hγ : ∀ k, γ k < 128) (k : Fin 2048) (l : Fin 128) :
    hotT cls (ix2 k l) = BitVec.ofBool (decide (γ k.val = l.val)) := by
  unfold hotT
  pointwise [h]
  have := hγ k.val
  have := l.isLt
  exact cmpi_eq_ofNat _ _ (by omega) (by omega)

/-- A bit as a number. -/
theorem uitofp_ofBool (f : FTy) (b : Bool) : (FloatOps.uitofp f (BitVec.ofBool b) : Ideal f) = (((if b then 1 else 0 : ℝ)) : EReal) := by
  show (((((BitVec.ofBool b).toNat : ℕ) : ℝ)) : EReal) = _
  cases b <;> simp

/-- The kernel's table, entry by entry. -/
theorem tableT_at (flags : IVec S6144 1) (st : IVec S6144x128 1) (e : Fin 6144 → Bool) (o : Fin 6144 → Fin 128 → Bool)
    (he : ∀ j, flags (ix1 j) = BitVec.ofBool (e j)) (ho : ∀ j l, st (ix2 j l) = BitVec.ofBool (o j l)) (j : Fin 6144) (l : Fin 128) :
    tableT flags st (ix2 j l) = (((if (if l.val = 96 then e j else o j l) then 1 else 0 : ℝ)) : EReal) := by
  unfold tableT
  pointwise [he, ho]
  have := l.isLt
  rw [show (96#32 : BitVec 32) = BitVec.ofNat 32 96 from rfl, cmpi_eq_ofNat _ _ (by omega) (by omega), select_ofBool]
  by_cases h : l.val = 96
  · simp only [h, decide_true, if_true]; exact uitofp_ofBool _ _
  · simp only [h, decide_false, if_false, Bool.false_eq_true]; exact uitofp_ofBool _ _

/-- Three columns put one after another, as the nested choice by which they are read. -/
theorem cat3_dite {α : Type} (a b c : Fin 2048 → α) (j : Fin 6144) :
    (if h : j.val < 2048 then a ⟨j.val, h⟩ else if h' : j.val - 2048 < 2048 then b ⟨j.val - 2048, h'⟩ else c ⟨j.val - 2048 - 2048, by omega⟩)
      = cat3 a b c j := by
  unfold cat3
  split_ifs
  · rfl
  · rfl
  · omega
  · omega
  · exact congrArg c (Fin.ext (by simp only; omega))

/-- The stacked tables, entry by entry. -/
theorem stackT_at (a b c : IVec S2048x128 1) (j : Fin 6144) (l : Fin 128) :
    stackT a b c (ix2 j l) = cat3 (fun q => a (ix2 q l)) (fun q => b (ix2 q l)) (fun q => c (ix2 q l)) j := by
  unfold stackT
  pointwise
  exact cat3_dite (fun q => a (ix2 q l)) (fun q => b (ix2 q l)) (fun q => c (ix2 q l)) j

/-- The stacked columns, entry by entry. -/
theorem flagsT_at (a b c : IVec S2048 1) (j : Fin 6144) :
    flagsT a b c (ix1 j) = cat3 (fun q => a (ix1 q)) (fun q => b (ix1 q)) (fun q => c (ix1 q)) j := by
  unfold flagsT
  pointwise
  exact cat3_dite (fun q => a (ix1 q)) (fun q => b (ix1 q)) (fun q => c (ix1 q)) j

end Cert.Loss
-- ==== Proof.Ref.lean ====
module

public import proofs.«01_k».proof.Proof.Gen.ReferenceIdeal.Run
public import proofs.«01_k».proof.Proof.KernHostAt
public import Idealize.ShloMosaic.Lib.Routing.Ops
public import Idealize.ShloMosaic.Lib.Routing.OpsSet
public import Idealize.ShloMosaic.Lib.Routing.OpsPair
public import Idealize.ShloMosaic.Lib.Pointwise

@[expose] public section

set_option maxRecDepth 16384

noncomputable section

namespace Cert.Loss

open Cert.ReferenceIdeal Cert.ReferenceIdeal.Gen Idealize.ShloMosaic Idealize.ShloMosaic.TcCoe Idealize.SL.Sem

/-! ## The reference's arrays, one by one -/

/-- The order of the mask: the positions sorted by the negated mask. -/
def orderT (msk : IVec S2048 32) : IVec S2048 32 :=
  (Host.sort2 S2048 0 comparator_i32_i32_d0 (negi msk) (iotaInDim S2048 32 0)).2

/-- The positions as row numbers. -/
def pickT (msk : IVec S2048 32) : IVec S2048x1 32 :=
  broadcastInDim S2048x1 ![0] bcast_S2048_S2048x1_0 (select (cmpi .slt (orderT msk) (broadcastInDim S2048 ![] bcast_S_S2048 (constantI S_ 32 0#32)))
    (addi (orderT msk) (broadcastInDim S2048 ![] bcast_S_S2048 (constantI S_ 32 2048#32))) (orderT msk))

/-- The third segment's rows in that order. -/
def gatherT (x : FVec Ideal S2048x128 .f32) (msk : IVec S2048 32) : FVec Ideal S2048x128 .f32 :=
  Host.gather gather_S2048x128_S2048x1_S2048x128_1_0_n_n_0_1_1128 x (pickT msk)

/-- All 6144 rows. -/
def allT (a b d : FVec Ideal S2048x128 .f32) : FVec Ideal S6144x128 .f32 :=
  concatenate S6144x128 0 [⟨S2048x128, a⟩, ⟨S2048x128, b⟩, ⟨S2048x128, d⟩] concatenates_S2048x128_S2048x128_S2048x128_S6144x128_d0

/-- The similarities over the temperature. -/
def logitT (z : FVec Ideal S6144x128 .f32) : FVec Ideal S6144x6144 .f32 :=
  Host.divf (Host.dotGeneral dot_S6144x128_S128x6144_S6144x6144_1_0_0_1_n_n none z (transpose S128x6144 [1, 0] z transposes_S6144x128_S128x6144_1_0))
    (broadcastInDim S6144x6144 ![] bcast_S_S6144x6144 (constant S_ .f32 0x3E4CCCCD#32))

/-- A matrix less the greatest entry of each of its rows. -/
def shiftR (l : FVec Ideal S6144x6144 .f32) : FVec Ideal S6144x6144 .f32 :=
  subf l (broadcastInDim S6144x6144 ![0, 1] bcast_S6144x1_S6144x6144_0_1 (broadcastInDim S6144x1 ![0] bcast_S6144_S6144x1_0
    (Host.reduce FloatOps.maximumf l (constant S_ .f32 0xFF800000#32) reducesTo_S6144x6144_S6144_d1 h_S_)))

/-- Ones off the diagonal. -/
def offT : FVec Ideal S6144x6144 .f32 :=
  subf (broadcastInDim S6144x6144 ![] bcast_S_S6144x6144 (constant S_ .f32 0x3F800000#32)) (uitofp .f32 (cmpi .eq (addi (iotaInDim S6144x6144 32 0)
    (broadcastInDim S6144x6144 ![] bcast_S_S6144x6144 (constantI S_ 32 0#32))) (iotaInDim S6144x6144 32 1)))

/-- The logarithm of each row's sum of exponentials, the diagonal left out. -/
def logsumT (s e : FVec Ideal S6144x6144 .f32) : FVec Ideal S6144x6144 .f32 :=
  broadcastInDim S6144x6144 ![0, 1] bcast_S6144x1_S6144x6144_0_1 (Host.log (broadcastInDim S6144x1 ![0] bcast_S6144_S6144x1_0
    (Host.reduceAdd (mulf (Host.exp s) e) (constant S_ .f32 0x00000000#32) reducesTo_S6144x6144_S6144_d1 h_S_)))

/-- The mean log probability of each row. -/
def meanT (s e w : FVec Ideal S6144x6144 .f32) : FVec Ideal S6144 .f32 :=
  Host.divf (Host.reduceAdd (mulf (mulf (subf s (logsumT s e)) e) w) (constant S_ .f32 0x00000000#32) reducesTo_S6144x6144_S6144_d1 h_S_)
    (Host.reduceAdd w (constant S_ .f32 0x00000000#32) reducesTo_S6144x6144_S6144_d1 h_S_)

/-- Which pairs of rows have equal words. -/
def equalT (x : IVec S2048 32) : FVec Ideal S2048x2048 .f32 :=
  uitofp .f32 (cmpi .eq (broadcastInDim S2048x2048 ![0, 1] bcast_S2048x1_S2048x2048_0_1 (broadcastInDim S2048x1 ![0] bcast_S2048_S2048x1_0 x))
    (broadcastInDim S2048x2048 ![0, 1] bcast_S1x2048_S2048x2048_0_1 (broadcastInDim S1x2048 ![1] bcast_S2048_S1x2048_1 x)))

/-- A pair of equal start indices. -/
def startT (n : BitVec 32) : IVec S2 32 :=
  concatenate S2 0 [⟨S1, (broadcastInDim S1 ![] bcast_S_S1 (constantI S_ 32 n))⟩, ⟨S1, (broadcastInDim S1 ![] bcast_S_S1 (constantI S_ 32 n))⟩] concatenates_S1_S1_S2_d0

/-- A matrix repeated twice along both sides. -/
def tileT (x : FVec Ideal S2048x2048 .f32) : FVec Ideal S4096x4096 .f32 :=
  shapeCast _ (broadcastInDim S2x2048x2x2048 ![0, 1, 2, 3] bcast_S1x2048x1x2048_S2x2048x2x2048_0_1_2_3 (shapeCast _ x shapeCasts_S2048x2048_S1x2048x1x2048))
    shapeCasts_S2x2048x2x2048_S4096x4096

/-- Which pairs of rows are of one class. -/
def sameT (lab gid : IVec S2048 32) : FVec Ideal S6144x6144 .f32 :=
  Host.scatter scatter_S6144x6144_S2_S4096x4096_01_n_01_0 (fun _ b => b) (Host.scatter scatter_S6144x6144_S2_S2048x2048_01_n_01_0 (fun _ b => b)
    (broadcastInDim S6144x6144 ![] bcast_S_S6144x6144 (constant S_ .f32 0x00000000#32)) (startT 0#32) (equalT lab)) (startT 2048#32) (tileT (equalT gid))

/-- Which anchor rows are kept. -/
def keepR (prob : FVec Ideal S2048 .f32) : FVec Ideal S4096 .f32 :=
  uitofp .f32 (cmpf .oge (concatenate S4096 0 [⟨S2048, prob⟩, ⟨S2048, (broadcastInDim S2048 ![] bcast_S_S2048 (constant S_ .f32 0x3F800000#32))⟩] concatenates_S2048_S2048_S4096_d0)
    (broadcastInDim S4096 ![] bcast_S_S4096 (constant S_ .f32 0x3F000000#32)))

/-- The mean over the kept anchor rows. -/
def lossT (p : FVec Ideal S6144 .f32) (k : FVec Ideal S4096 .f32) : FVec Ideal S_ .f32 :=
  Host.divf (Host.reduceAdd (mulf (mulf (Host.negf (extractStridedSlice S4096 ![0] p slices_S6144_S4096_0)) (broadcastInDim S4096 ![] bcast_S_S4096 (constant S_ .f32 0x3F800000#32))) k)
    (constant S_ .f32 0x00000000#32) reducesTo_S4096_S_d0 h_S_) (Host.reduceAdd k (constant S_ .f32 0x00000000#32) reducesTo_S4096_S_d0 h_S_)

/-- The reference's result, array by array. -/
theorem res_eq (m : (ℓ : Loc nD τ sig) → Buf (Elt Ideal) ℓ) (c : Dev nD) :
    Value.res_main_v74 m c
      = lossT (meanT (shiftR (logitT (allT (m ((c.tc : Thread nD τ).loc main_arg0)) (m ((c.tc : Thread nD τ).loc main_arg3))
          (gatherT (m ((c.tc : Thread nD τ).loc main_arg4)) (m ((c.tc : Thread nD τ).loc main_arg6)))))) offT
          (sameT (m ((c.tc : Thread nD τ).loc main_arg1)) (m ((c.tc : Thread nD τ).loc main_arg5)))) (keepR (m ((c.tc : Thread nD τ).loc main_arg2))) := rfl

/-! ## Their entries -/

/-- A function of a row among the 6144. -/
theorem cat3_map {α β : Type} (f : α → β) (a b c : Fin 2048 → α) (j : Fin 6144) :
    cat3 (fun q => f (a q)) (fun q => f (b q)) (fun q => f (c q)) j = f (cat3 a b c j) := by
  unfold cat3
  split_ifs <;> rfl

/-- The rows' entries. -/
theorem allT_at (a b d : FVec Ideal S2048x128 .f32) (A B D : Fin 2048 → Fin 128 → ℝ) (ha : ∀ q k, a (ix2 q k) = (A q k : EReal))
    (hb : ∀ q k, b (ix2 q k) = (B q k : EReal)) (hd : ∀ q k, d (ix2 q k) = (D q k : EReal)) (j : Fin 6144) (k : Fin 128) :
    allT a b d (ix2 j k) = ((cat3 A B D j k : ℝ) : EReal) := by
  unfold allT
  pointwise [ha, hb, hd]
  exact (cat3_dite (fun q => ((A q k : ℝ) : EReal)) (fun q => ((B q k : ℝ) : EReal)) (fun q => ((D q k : ℝ) : EReal)) j).trans
    (cat3_map (fun f : Fin 128 → ℝ => ((f k : ℝ) : EReal)) A B D j)

/-- The temperature. -/
theorem temp_val : Ideal.ofBits .f32 0x3E4CCCCD#32 = ((13421773 / 67108864 : ℝ) : EReal) := by
  simp [Ideal.ofBits, Ideal.ieee]
  rw [← EReal.coe_mul]
  norm_num

/-- The similarities over the temperature, as real numbers. -/
theorem logitT_at (z : FVec Ideal S6144x128 .f32) (Y : Fin 6144 → Fin 128 → ℝ) (hz : ∀ j k, z (ix2 j k) = (Y j k : EReal)) (i j : Fin 6144) :
    logitT z (ix2 i j) = (((67108864 / 13421773) * dot Y i j : ℝ) : EReal) := by
  unfold logitT
  pointwise [hz, temp_val]
  have e : (∑ x, (Y i x : EReal) * (Y j x : EReal)) = ((dot Y i j : ℝ) : EReal) := by unfold dot; simp only [coe_sum, EReal.coe_mul]
  rw [e, div_coe _ _ (by norm_num)]
  congr 1
  ring

/-- The pattern of negative infinity. -/
theorem ofBits_bot : Ideal.ofBits .f32 4286578688#32 = ⊥ := by simp [Ideal.ofBits, Ideal.ieee]

/-- The threshold of the keep flags. -/
theorem half_val : Ideal.ofBits .f32 1056964608#32 = ((1 / 2 : ℝ) : EReal) := by
  simp [Ideal.ofBits, Ideal.ieee]
  rw [← EReal.coe_mul]
  norm_num

/-- The shifted matrix, as real numbers. -/
theorem shiftR_at (l : FVec Ideal S6144x6144 .f32) (L : Fin 6144 → Fin 6144 → ℝ) (hl : ∀ i j, l (ix2 i j) = (L i j : EReal)) :
    ∃ m : Fin 6144 → ℝ, ∀ i j, shiftR l (ix2 i j) = ((L i j - m i : ℝ) : EReal) := by
  have h : ∀ i, ∃ g : ℝ, Finset.univ.fold max (⊥ : EReal) (fun j => (L i j : EReal)) = (g : EReal) := fun i => fold_max_coe (n := 6143) (L i)
  refine ⟨fun i => (h i).choose, fun i j => ?_⟩
  have e := (h i).choose_spec
  rw [EReal.coe_sub, ← e]
  unfold shiftR
  pointwise [hl]
  rw [ofBits_bot]

/-- The entries off the diagonal. -/
theorem offT_at (i j : Fin 6144) : offT (ix2 i j) = ((1 - if i = j then 1 else 0 : ℝ) : EReal) := by
  unfold offT
  pointwise
  have hi := i.isLt
  have hj := j.isLt
  rw [show IntOp.addi (BitVec.ofNat 32 i.val) 0#32 = BitVec.ofNat 32 i.val from BitVec.add_zero _, cmpi_eq_ofNat _ _ (by omega) (by omega), uitofp_ofBool,
    EReal.coe_sub, EReal.coe_one]
  simp only [decide_eq_true_eq, Fin.ext_iff]

/-- The logarithm of a row's sum, as a real number. -/
theorem logsumT_at (s e : FVec Ideal S6144x6144 .f32) (S E : Fin 6144 → Fin 6144 → ℝ) (hs : ∀ i j, s (ix2 i j) = (S i j : EReal))
    (he : ∀ i j, e (ix2 i j) = (E i j : EReal)) (i j : Fin 6144) (hpos : 0 < ∑ j, Real.exp (S i j) * E i j) :
    logsumT s e (ix2 i j) = ((Real.log (∑ j, Real.exp (S i j) * E i j) : ℝ) : EReal) := by
  unfold logsumT
  pointwise [hs, he]
  have e : (∑ x, Ideal.exp (S i x : EReal) * (E i x : EReal)) = ((∑ j, Real.exp (S i j) * E i j : ℝ) : EReal) := by
    simp only [coe_sum, EReal.coe_mul, exp_coe]
  rw [e, log_coe _ hpos]

/-- The mean log probability of a row, as a real number. -/
theorem meanT_at (s e w : FVec Ideal S6144x6144 .f32) (S E W : Fin 6144 → Fin 6144 → ℝ) (hs : ∀ i j, s (ix2 i j) = (S i j : EReal))
    (he : ∀ i j, e (ix2 i j) = (E i j : EReal)) (hw : ∀ i j, w (ix2 i j) = (W i j : EReal)) (i : Fin 6144) (hpos : 0 < ∑ j, Real.exp (S i j) * E i j)
    (hne : (∑ j, W i j) ≠ 0) :
    meanT s e w (ix1 i) = (((∑ j, (S i j - Real.log (∑ j, Real.exp (S i j) * E i j)) * E i j * W i j) / ∑ j, W i j : ℝ) : EReal) := by
  have hq := fun j => logsumT_at s e S E hs he i j hpos
  unfold meanT
  generalize logsumT s e = q at hq ⊢
  pointwise [hs, he, hw, hq]
  rw [← coe_sum, ← div_coe _ _ hne]
  simp only [coe_sum, EReal.coe_mul, EReal.coe_sub]

/-- Whether two rows have equal words. -/
theorem equalT_at (x : IVec S2048 32) (ξ : ℕ → ℕ) (hξ : ∀ k, ξ k < 2 ^ 32) (hx : ∀ k : Fin 2048, x (ix1 k) = BitVec.ofNat 32 (ξ k.val)) (i j : Fin 2048) :
    equalT x (ix2 i j) = ((if ξ i.val = ξ j.val then 1 else 0 : ℝ) : EReal) := by
  unfold equalT
  pointwise [hx]
  rw [cmpi_eq_ofNat _ _ (hξ _) (hξ _), uitofp_ofBool]
  simp only [decide_eq_true_eq]

/-- The start indices. -/
theorem startT_at (n : BitVec 32) (i : Fin 2) : startT n (ix1 i) = n := by
  unfold startT
  pointwise
  exact ite_self _

/-- The entries of a repeated matrix. -/
theorem tileT_at (x : FVec Ideal S2048x2048 .f32) (i j : Fin 4096) :
    tileT x (ix2 i j) = x (ix2 ⟨i.val % 2048, Nat.mod_lt _ (by norm_num)⟩ ⟨j.val % 2048, Nat.mod_lt _ (by norm_num)⟩) := by
  unfold tileT
  pointwise

/-- Whether an anchor row is kept. -/
theorem keepR_at (prob : FVec Ideal S2048 .f32) (i : Fin 4096) :
    keepR prob (ix1 i) = (if h : i.val < 2048 then (uitofp .f32 (cmpf .oge prob (constant S2048 .f32 0x3F000000#32)) : FVec Ideal S2048 .f32) (ix1 ⟨i.val, h⟩) else 1) := by
  unfold keepR
  pointwise
  by_cases h : i.val < 2048
  · simp only [dif_pos h]
  · simp only [dif_neg h]
    rw [decide_eq_true (by rw [half_val]; exact_mod_cast (by norm_num : (1 / 2 : ℝ) ≤ 1)), uitofp_ofBool]
    simp

/-- The mean over the kept rows, as a real number. -/
theorem lossT_at (p : FVec Ideal S6144 .f32) (k : FVec Ideal S4096 .f32) (P : Fin 6144 → ℝ) (K : Fin 4096 → ℝ) (hp : ∀ i : Fin 4096, p (ix1 ⟨i.val, by omega⟩) = (P ⟨i.val, by omega⟩ : EReal))
    (hk : ∀ i, k (ix1 i) = (K i : EReal)) (hne : (∑ i, K i) ≠ 0) :
    lossT p k ix0 = (((-∑ i : Fin 4096, K i * P ⟨i.val, by omega⟩) / ∑ i, K i : ℝ) : EReal) := by
  unfold lossT
  pointwise [hp, hk]
  rw [← coe_sum, ← div_coe _ _ hne]
  refine congrArg₂ Ideal.div ?_ rfl
  rw [← Finset.sum_neg_distrib, coe_sum]
  refine Finset.sum_congr rfl fun x _ => ?_
  rw [← EReal.coe_neg, ← EReal.coe_mul]
  congr 1
  ring

/-! ## The classes -/

/-- A vector's index by its coordinate. -/
theorem eta1 {n : ℕ} (k : (⟨1, ![n]⟩ : Shape).Idx) : k = ix1 (k 0) := by
  funext a
  match a with
  | ⟨0, _⟩ => rfl

/-- A matrix's index by its coordinates. -/
theorem eta2 {a b : ℕ} (k : (⟨2, ![a, b]⟩ : Shape).Idx) : k = ix2 (k 0) (k 1) := by
  funext q
  match q with
  | ⟨0, _⟩ => rfl
  | ⟨1, _⟩ => rfl

/-- Every entry of a pair of equal start indices. -/
theorem startT_all (n : BitVec 32) (k : S2.Idx) : startT n k = n := (congrArg (startT n) (eta1 k)).trans (startT_at n (k 0))

/-- Where the labels' block lands. -/
theorem land_small (k : S2048x2048.Idx) (r c : Fin 6144) :
    scatter_S6144x6144_S2_S2048x2048_01_n_01_0.resultIdx? k (startT 0#32) = some (ix2 r c) ↔ (k 0).val = r.val ∧ (k 1).val = c.val := by
  have hm : ∀ q : Fin 2, q ∈ ([0, 1] : List (Fin 2)) := by decide
  have hs : ∀ q : Fin 2, scatter_S6144x6144_S2_S2048x2048_01_n_01_0.start k (startT 0#32) q = 0 := fun q => by
    unfold ScatterDims.start
    rw [dif_pos (show q ∈ scatter_S6144x6144_S2_S2048x2048_01_n_01_0.scatterDimsToOperandDims from hm q), startT_all]
    rfl
  rw [← vix2, Routing.resultIdx?_ix2, hs, hs, show scatter_S6144x6144_S2_S2048x2048_01_n_01_0.window k 0 = (k 0).val from rfl,
    show scatter_S6144x6144_S2_S2048x2048_01_n_01_0.window k 1 = (k 1).val from rfl]
  omega

/-- Where the groups' block lands. -/
theorem land_large (k : S4096x4096.Idx) (r c : Fin 6144) :
    scatter_S6144x6144_S2_S4096x4096_01_n_01_0.resultIdx? k (startT 2048#32) = some (ix2 r c) ↔ 2048 + (k 0).val = r.val ∧ 2048 + (k 1).val = c.val := by
  have hm : ∀ q : Fin 2, q ∈ ([0, 1] : List (Fin 2)) := by decide
  have hs : ∀ q : Fin 2, scatter_S6144x6144_S2_S4096x4096_01_n_01_0.start k (startT 2048#32) q = 2048 := fun q => by
    unfold ScatterDims.start
    rw [dif_pos (show q ∈ scatter_S6144x6144_S2_S4096x4096_01_n_01_0.scatterDimsToOperandDims from hm q), startT_all]
    rfl
  rw [← vix2, Routing.resultIdx?_ix2, hs, hs, show scatter_S6144x6144_S2_S4096x4096_01_n_01_0.window k 0 = (k 0).val from rfl,
    show scatter_S6144x6144_S2_S4096x4096_01_n_01_0.window k 1 = (k 1).val from rfl]
  omega

/-- A row's class: its label in the first segment, its group after the labels in the other two. -/
def clsOf (ξ γ : ℕ → ℕ) (j : Fin 6144) : ℕ := cat3 (fun q => ξ q.val) (fun q => 80 + γ q.val) (fun q => 80 + γ q.val) j

/-- The class of a row of the first segment. -/
theorem clsOf_small (ξ γ : ℕ → ℕ) (j : Fin 6144) (h : j.val < 2048) : clsOf ξ γ j = ξ j.val := by
  unfold clsOf cat3; rw [dif_pos h]

/-- The class of a row of the other segments. -/
theorem clsOf_large (ξ γ : ℕ → ℕ) (j : Fin 6144) (h : 2048 ≤ j.val) : clsOf ξ γ j = 80 + γ ((j.val - 2048) % 2048) := by
  unfold clsOf cat3
  rw [dif_neg (by omega)]
  split_ifs with h2
  · simp only; rw [Nat.mod_eq_of_lt (by omega)]
  · show 80 + γ (j.val - 4096) = _
    rw [show (j.val - 2048) % 2048 = j.val - 4096 by omega]

/-- The pairs of one class: labels in the first segment, groups in the other two. -/
theorem sameT_at (lab gid : IVec S2048 32) (ξ γ : ℕ → ℕ) (hξ : ∀ k, ξ k < 80) (hγ : ∀ k, γ k < 16)
    (hl : ∀ k : Fin 2048, lab (ix1 k) = BitVec.ofNat 32 (ξ k.val)) (hg : ∀ k : Fin 2048, gid (ix1 k) = BitVec.ofNat 32 (γ k.val)) (i j : Fin 6144) :
    sameT lab gid (ix2 i j) = ((if clsOf ξ γ i = clsOf ξ γ j then 1 else 0 : ℝ) : EReal) := by
  have el := equalT_at lab ξ (fun k => lt_trans (hξ k) (by norm_num)) hl
  have eg := equalT_at gid γ (fun k => lt_trans (hγ k) (by norm_num)) hg
  have hi := i.isLt
  have hj := j.isLt
  unfold sameT
  by_cases h2 : 2048 ≤ i.val ∧ 2048 ≤ j.val
  · refine Routing.scatter_set_hit _ _ _ _ (ix2 i j) _ (fun k hk => ?_) (ix2 ⟨i.val - 2048, by omega⟩ ⟨j.val - 2048, by omega⟩) ?_
    · rw [land_large] at hk
      obtain ⟨p, q, rfl⟩ : ∃ p q : Fin 4096, k = ix2 p q := ⟨k 0, k 1, eta2 k⟩
      have e0 : p.val = i.val - 2048 := by have h : 2048 + p.val = i.val := hk.1; omega
      have e1 : q.val = j.val - 2048 := by have h : 2048 + q.val = j.val := hk.2; omega
      rw [tileT_at, eg, clsOf_large ξ γ i h2.1, clsOf_large ξ γ j h2.2]
      simp only [e0, e1, Nat.add_left_cancel_iff]
    · rw [land_large]
      exact ⟨by show 2048 + (i.val - 2048) = i.val; omega, by show 2048 + (j.val - 2048) = j.val; omega⟩
  · rw [Routing.scatter_set_miss _ _ _ _ (ix2 i j) (fun k hk => by rw [land_large] at hk; omega)]
    by_cases h1 : i.val < 2048 ∧ j.val < 2048
    · refine Routing.scatter_set_hit _ _ _ _ (ix2 i j) _ (fun k hk => ?_) (ix2 ⟨i.val, h1.1⟩ ⟨j.val, h1.2⟩) ?_
      · rw [land_small] at hk
        obtain ⟨p, q, rfl⟩ : ∃ p q : Fin 2048, k = ix2 p q := ⟨k 0, k 1, eta2 k⟩
        have e0 : p.val = i.val := hk.1
        have e1 : q.val = j.val := hk.2
        rw [el, clsOf_small ξ γ i h1.1, clsOf_small ξ γ j h1.2, e0, e1]
      · rw [land_small]
        exact ⟨rfl, rfl⟩
    · rw [Routing.scatter_set_miss _ _ _ _ (ix2 i j) (fun k hk => by
        rw [land_small] at hk
        have h0 : (k 0).val < 2048 := (k 0).isLt
        have h3 : (k 1).val < 2048 := (k 1).isLt
        omega)]
      have hne : clsOf ξ γ i ≠ clsOf ξ γ j := by
        by_cases hi2 : i.val < 2048
        · rw [clsOf_small ξ γ i hi2, clsOf_large ξ γ j (by omega)]
          have := hξ i.val
          omega
        · rw [clsOf_large ξ γ i (by omega), clsOf_small ξ γ j (by omega)]
          have := hξ j.val
          omega
      rw [if_neg hne]
      pointwise
      exact EReal.coe_zero.symm

/-- The rows of the third segment, taken by their order. -/
theorem gatherT_at (x : FVec Ideal S2048x128 .f32) (msk : IVec S2048 32) (b : Fin 2048 → Fin 2048)
    (hb : ∀ r, orderT msk (ix1 r) = BitVec.ofNat 32 (b r).val) (r : Fin 2048) (k : Fin 128) : gatherT x msk (ix2 r k) = x (ix2 (b r) k) := by
  have hp : pickT msk (ix2 r (0 : Fin 1)) = BitVec.ofNat 32 (b r).val := by
    have h := hb r
    unfold pickT
    generalize orderT msk = X at h ⊢
    pointwise [h]
    have hl := (b r).isLt
    refine Routing.wrap_of_lt _ _ ?_
    rw [BitVec.toNat_ofNat, Nat.mod_eq_of_lt (by omega)]
    omega
  unfold gatherT
  rw [← vix2, ← vix2]
  exact Routing.gather_row _ rfl rfl rfl rfl rfl x _ r k (b r) ((congrArg _ (vix2 r (0 : Fin 1))).trans hp) (by norm_num)

end Cert.Loss
-- ==== Proof.RefVal.lean ====
module

public import proofs.«01_k».proof.Proof.Ref

@[expose] public section

set_option maxRecDepth 16384

noncomputable section

namespace Cert.Loss

open Cert.ReferenceIdeal Cert.ReferenceIdeal.Gen Idealize.ShloMosaic Idealize.ShloMosaic.TcCoe Idealize.SL.Sem

/-! ## The reference's result as a formula in real numbers -/

/-- Which rows are weighted: the first segment's by the flags, all of the second's, none of the third's. -/
def kept (kp : Fin 2048 → Bool) : Fin 6144 → Bool := cat3 kp (fun _ => true) (fun _ => false)

/-- The row weights. -/
def wgt (kp : Fin 2048 → Bool) (i : Fin 4096) : ℝ := if kept kp ⟨i.val, by omega⟩ then 1 else 0

/-- The weighted mean of the rows' losses, the sign turned. -/
def lossOf (kp : Fin 2048 → Bool) (Y : Fin 6144 → Fin 128 → ℝ) (cls : Fin 6144 → ℕ) : ℝ :=
  (-(∑ i : Fin 4096, wgt kp i * rowLoss (67108864 / 13421773) Y (fun i j => if cls i = cls j then 1 else 0) ⟨i.val, by omega⟩)) / ∑ i, wgt kp i

/-- The row weights do not sum to zero: the second segment's are one. -/
theorem wgt_sum (kp : Fin 2048 → Bool) : (∑ i, wgt kp i) ≠ 0 := by
  refine (Finset.sum_pos' (fun i _ => ?_) ⟨⟨2048, by norm_num⟩, Finset.mem_univ _, ?_⟩).ne'
  · unfold wgt; split_ifs <;> norm_num
  · unfold wgt kept cat3; norm_num

/-- A one-bit word is the word of its truth. -/
theorem bit_eq (w : BitVec 1) : w = BitVec.ofBool (decide (w = 1#1)) := by
  revert w; decide

/-- The comparator on negated 0/1 words puts the larger entry first. -/
theorem cmp_bits (a b : ℕ) (ha : a ≤ 1) (hb : b ≤ 1) :
    (IntOp.cmpi CmpIPredicate.slt (-(BitVec.ofNat 32 a)) (-(BitVec.ofNat 32 b)) == 1#1) = decide (b < a) := by
  interval_cases a <;> interval_cases b <;> decide

/-- The rows in the order of the mask: the ones first. -/
def orderOf (μ : ℕ → ℕ) : Fin 2048 → Fin 2048 := sortedFrom (fun a b : Fin 2048 => decide (μ b.val < μ a.val))

/-- Position `k` of a column, in the two spellings. -/
theorem ofFin_eq {n : ℕ} (k : Fin n) : (Shape.Idx.ofFin k : (⟨1, ![n]⟩ : Shape).Idx) = ix1 k :=
  funext fun d => by match d with | ⟨0, _⟩ => rfl

/-- A sort of a column carries an entry to its place. -/
theorem sortBy_at {n : ℕ} {ι α : Type} (cmp : ι → ι → BitVec 1) (rows : (⟨1, ![n]⟩ : Shape).Idx → ι) (x : (⟨1, ![n]⟩ : Shape).Idx → α)
    (before : Fin n → Fin n → Bool) (hc : ∀ k k', (cmp (rows (ix1 k)) (rows (ix1 k')) == 1#1) = before k k') (r : Fin n) :
    Host.sortBy ⟨1, ![n]⟩ 0 cmp rows x (ix1 r) = x (ix1 (sortedFrom before r)) := by
  have e : (fun k k' : Fin n => cmp (rows (ix1 k)) (rows (ix1 k')) == 1#1) = before := funext fun k => funext fun k' => hc k k'
  have h : Host.sortBy ⟨1, ![n]⟩ 0 cmp rows x (ix1 r)
      = x (Shape.Idx.ofFin (sortedFrom (fun k k' => cmp (rows (Shape.Idx.ofFin k)) (rows (Shape.Idx.ofFin k')) == 1#1) ((ix1 r : (⟨1, ![n]⟩ : Shape).Idx) 0))) := by
    unfold Host.sortBy; simp
  rw [h, ofFin_eq]
  simp only [ofFin_eq]
  rw [e]
  rfl

/-- The reference's order, entry by entry. -/
theorem orderT_at (msk : IVec S2048 32) (μ : ℕ → ℕ) (hμ : ∀ k, μ k ≤ 1) (h : ∀ k : Fin 2048, msk (ix1 k) = BitVec.ofNat 32 (μ k.val)) (r : Fin 2048) :
    orderT msk (ix1 r) = BitVec.ofNat 32 (orderOf μ r).val := by
  unfold orderT
  rw [Host.sort2_eq_sortBy]
  show Host.sortBy ⟨1, ![2048]⟩ 0 comparator_i32_i32_d0 (fun j => (negi msk j, iotaInDim S2048 32 0 j)) (iotaInDim S2048 32 0) (ix1 r) = _
  rw [sortBy_at _ _ _ (fun a b : Fin 2048 => decide (μ b.val < μ a.val)) (fun a b => ?_) r]
  · rfl
  show (IntOp.cmpi CmpIPredicate.slt (-(msk (ix1 a))) (-(msk (ix1 b))) == 1#1) = _
  rw [h, h]
  exact cmp_bits _ _ (hμ _) (hμ _)

/-- The reference's result: the formula at the rows in the order of the mask, with the classes in their given order. -/
theorem reference_value (a b x : FVec Ideal S2048x128 .f32) (lab gid msk : IVec S2048 32) (prob : FVec Ideal S2048 .f32)
    (X0 X1 X2 : Fin 2048 → Fin 128 → ℝ) (ξ γ μ : ℕ → ℕ)
    (h0 : ∀ q k, a (ix2 q k) = (X0 q k : EReal)) (h1 : ∀ q k, b (ix2 q k) = (X1 q k : EReal)) (h2 : ∀ q k, x (ix2 q k) = (X2 q k : EReal))
    (hξ : ∀ k, ξ k < 80) (hγ : ∀ k, γ k < 16) (hμ : ∀ k, μ k ≤ 1)
    (hl : ∀ k : Fin 2048, lab (ix1 k) = BitVec.ofNat 32 (ξ k.val)) (hg : ∀ k : Fin 2048, gid (ix1 k) = BitVec.ofNat 32 (γ k.val))
    (hm : ∀ k : Fin 2048, msk (ix1 k) = BitVec.ofNat 32 (μ k.val)) (kp : Fin 2048 → Bool)
    (hk : ∀ q : Fin 2048, (cmpf .oge prob (constant S2048 .f32 0x3F000000#32)) (ix1 q) = BitVec.ofBool (kp q)) :
    lossT (meanT (shiftR (logitT (allT a b (gatherT x msk)))) offT (sameT lab gid)) (keepR prob) ix0
      = ((lossOf kp (cat3 X0 X1 (fun r => X2 (orderOf μ r))) (clsOf ξ γ) : ℝ) : EReal) := by
  have hz := allT_at a b (gatherT x msk) X0 X1 (fun r => X2 (orderOf μ r)) h0 h1
    (fun q k => by rw [gatherT_at x msk (orderOf μ) (orderT_at msk μ hμ hm)]; exact h2 _ _)
  obtain ⟨t, ht⟩ := shiftR_at _ _ (logitT_at _ _ hz)
  generalize hY : cat3 X0 X1 (fun r => X2 (orderOf μ r)) = Y at *
  have hs := sameT_at lab gid ξ γ hξ hγ hl hg
  have hmean : ∀ i : Fin 6144, meanT (shiftR (logitT (allT a b (gatherT x msk)))) offT (sameT lab gid) (ix1 i)
      = ((rowLoss (67108864 / 13421773) Y (fun i j => if clsOf ξ γ i = clsOf ξ γ j then 1 else 0) i : ℝ) : EReal) := fun i => by
    rw [meanT_at _ _ _ _ _ _ ht offT_at hs i
      (by rw [reference_sum (fun j => Real.exp (67108864 / 13421773 * dot Y i j - t i)) i]; exact kernel_sum_pos _ i)
      (Finset.sum_pos' (fun j _ => by split_ifs <;> norm_num) ⟨i, Finset.mem_univ _, by rw [if_pos rfl]; norm_num⟩).ne']
    exact congrArg _ (reference_row (67108864 / 13421773) (t i) Y (fun i j => if clsOf ξ γ i = clsOf ξ γ j then 1 else 0) i (if_pos rfl))
  refine lossT_at _ _ _ (wgt kp) (fun i => hmean _) (fun i => ?_) (wgt_sum kp)
  rw [keepR_at]
  unfold wgt kept cat3
  by_cases h : i.val < 2048
  · rw [dif_pos h]
    show FloatOps.uitofp .f32 ((cmpf .oge prob (constant S2048 .f32 0x3F000000#32)) (ix1 ⟨i.val, h⟩)) = _
    rw [hk, uitofp_ofBool]
    simp only [h, dite_true]
  · rw [dif_neg h]
    simp only [h, dite_false, i.isLt, dite_true, if_true]
    exact EReal.coe_one.symm

end Cert.Loss
-- ==== Proof.Table.lean ====
module

public import proofs.«01_k».proof.Proof.KernEnd
public import proofs.«01_k».proof.Proof.RefVal

@[expose] public section

set_option maxRecDepth 16384

noncomputable section

namespace Cert.Loss

open Cert.KernelIdeal Cert.KernelIdeal.Gen Idealize.ShloMosaic Idealize.ShloMosaic.TcCoe Idealize.SL.Sem

/-! ## The kernel's table as classes and weights, and the kernel's result as the formula -/

/-- The classes in the kernel's order of the rows: the third segment's rows in their given order. -/
def clsK (ξ γ μ : ℕ → ℕ) (j : Fin 6144) : ℕ := cat3 (fun q => ξ q.val) (fun q => 80 + γ q.val) (fun q => 80 + γ (posOf μ q.val)) j

/-- Every class is below 96. -/
theorem clsK_lt (ξ γ μ : ℕ → ℕ) (hξ : ∀ k, ξ k < 80) (hγ : ∀ k, γ k < 16) (j : Fin 6144) : clsK ξ γ μ j < 96 := by
  unfold clsK cat3
  split_ifs
  · exact (hξ _).trans (by norm_num)
  · have := hγ (j.val - 2048); simpa using by omega
  · have := hγ (posOf μ (j.val - 4096)); simpa using by omega

/-- The table of weights and one-hot classes. -/
def tab (kp : Fin 2048 → Bool) (cls : Fin 6144 → ℕ) (j : Fin 6144) (l : Fin 128) : ℝ :=
  if (if l.val = 96 then kept kp j else decide (cls j = l.val)) then 1 else 0

/-- Lane 96 holds the weights. -/
theorem tab_keep (kp : Fin 2048 → Bool) (cls : Fin 6144 → ℕ) (i : Fin 4096) : tab kp cls ⟨i.val, by omega⟩ 96 = wgt kp i := by
  unfold tab wgt; rfl

/-- Two rows share their table lanes exactly when they share their class. -/
theorem tab_same (kp : Fin 2048 → Bool) (cls : Fin 6144 → ℕ) (hc : ∀ j, cls j < 96) (i j : Fin 6144) :
    sameOf (tab kp cls) i j = if cls i = cls j then 1 else 0 := by
  have hi := hc i
  have hj := hc j
  unfold sameOf
  have e : ∀ l : Fin 128, tab kp cls i l * (if l.val = 96 then 0 else tab kp cls j l)
      = if l = ⟨cls i, by omega⟩ then (if cls i = cls j then 1 else 0) else 0 := fun l => by
    unfold tab
    by_cases h96 : l.val = 96
    · simp only [if_pos h96, mul_zero]
      rw [if_neg fun h => by have := congrArg Fin.val h; simp at this; omega]
    · simp only [if_neg h96, decide_eq_true_eq]
      by_cases h : cls i = l.val
      · rw [if_pos h, if_pos (Fin.ext h.symm), one_mul]
        by_cases h' : cls i = cls j
        · rw [if_pos (h' ▸ h), if_pos h']
        · rw [if_neg fun h2 => h' (h.trans h2.symm), if_neg h']
      · rw [if_neg h, zero_mul, if_neg fun h2 => h (congrArg Fin.val h2).symm]
  rw [Finset.sum_congr rfl fun l _ => e l, Finset.sum_ite_eq' Finset.univ]
  simp

/-- A row's class is not empty. -/
theorem tab_count (kp : Fin 2048 → Bool) (cls : Fin 6144 → ℕ) (hc : ∀ j, cls j < 96) (i : Fin 6144) :
    (∑ l, tab kp cls i l * (if l.val = 96 then 0 else ∑ j, tab kp cls j l)) ≠ 0 := by
  have e : (∑ l : Fin 128, tab kp cls i l * (if l.val = 96 then 0 else ∑ j, tab kp cls j l)) = ∑ j, sameOf (tab kp cls) i j := by
    unfold sameOf
    rw [Finset.sum_comm]
    refine Finset.sum_congr rfl fun l _ => ?_
    rw [← Finset.mul_sum]
    by_cases h : l.val = 96 <;> simp [h]
  rw [e]
  refine (Finset.sum_pos' (fun j _ => ?_) ⟨i, Finset.mem_univ _, ?_⟩).ne'
  · rw [tab_same kp cls hc]; split_ifs <;> norm_num
  · rw [tab_same kp cls hc, if_pos rfl]; norm_num

section Value

variable (m : (ℓ : Loc nD τ sig) → Buf (Elt Ideal) ℓ) (c : Dev nD) (ξ γ μ : ℕ → ℕ) (kp : Fin 2048 → Bool)
  (hξ : ∀ k, ξ k < 80) (hγ : ∀ k, γ k < 16) (hμ : ∀ k, μ k ≤ 1) (hs : ∀ a b, a ≤ b → b < 2048 → γ a ≤ γ b)
  (hl : ∀ k : Fin 2048, (m (c, Proc.tc.devRef main_arg1) : IVec S2048 32) (ix1 k) = BitVec.ofNat 32 (ξ k.val))
  (hg : ∀ k : Fin 2048, (m (c, Proc.tc.devRef main_arg5) : IVec S2048 32) (ix1 k) = BitVec.ofNat 32 (γ k.val))
  (hm : ∀ k : Fin 2048, (m (c, Proc.tc.devRef main_arg6) : IVec S2048 32) (ix1 k) = BitVec.ofNat 32 (μ k.val))
  (hk : ∀ q : Fin 2048, probT (m (c, Proc.tc.devRef main_arg2)) (ix1 q) = BitVec.ofBool (kp q))

include hξ hγ hμ hs hl hg hm in
/-- The third segment's lanes: the class of a row is that of its place in the order of the mask. -/
theorem range_bit (k : Fin 2048) (l : Fin 128) :
    rangeT (posT (m (c, Proc.tc.devRef main_arg6))) (bndT (m (c, Proc.tc.devRef main_arg5))) (ix2 k l)
      = BitVec.ofBool (decide (80 + γ (posOf μ k.val) = l.val)) := by
  have hp := posOf_lt μ hμ k.val k.isLt
  rw [rangeT_at _ _ (posOf μ) (fun g => Nat.count (fun i => γ i < g) 2048) (posT_at _ μ hμ hm) (fun g => bndT_at _ γ hγ hg g)
    (fun k => posOf_lt μ hμ k.val k.isLt) (fun g => Nat.count_le _)]
  congr 1
  have hb := between_iff γ hs (posOf μ k.val) (l.val - 80) hp
  have hγp := hγ (posOf μ k.val)
  rw [decide_eq_decide]
  constructor
  · rintro ⟨h1, h2, h3⟩
    have := hb.1 h3
    omega
  · intro h
    exact ⟨by omega, by omega, hb.2 (by omega)⟩

include hξ hγ hμ hs hl hg hm hk in
/-- The kernel's table is the table of weights and classes. -/
theorem arr0_tab (j : Fin 6144) (l : Fin 128) : arr0 m c (ix2 j l) = (tab kp (clsK ξ γ μ) j l : EReal) := by
  rw [arr0_eq]
  refine (tableT_at _ _ (kept kp) (fun j l => decide (clsK ξ γ μ j = l.val)) (fun j => ?_) (fun j l => ?_) j l).trans rfl
  · rw [flagsT_at]
    unfold kept cat3
    split_ifs with h1 h2
    · exact hk ⟨j.val, h1⟩
    · rfl
    · rfl
  · rw [stackT_at]
    unfold clsK cat3
    split_ifs with h1 h2
    · exact hotT_at _ ξ hl (fun k => (hξ k).trans (by norm_num)) _ l
    · refine hotT_at _ (fun k => 80 + γ k) (fun k => ?_) (fun k => by have := hγ k; omega) _ l
      refine (congrArg (fun w : BitVec 32 => w + 80#32) (hg k)).trans ?_
      rw [Nat.add_comm, BitVec.ofNat_add]
    · exact range_bit m c ξ γ μ hξ hγ hμ hs hl hg hm _ l

variable (X0 X1 X2 : Fin 2048 → Fin 128 → ℝ)
  (h0 : ∀ q k, (m (c, Proc.tc.devRef main_arg0) : FVec Ideal S2048x128 .f32) (ix2 q k) = ((X0 q k : ℝ) : EReal))
  (h1 : ∀ q k, (m (c, Proc.tc.devRef main_arg3) : FVec Ideal S2048x128 .f32) (ix2 q k) = ((X1 q k : ℝ) : EReal))
  (h2 : ∀ q k, (m (c, Proc.tc.devRef main_arg4) : FVec Ideal S2048x128 .f32) (ix2 q k) = ((X2 q k : ℝ) : EReal))

include hξ hγ hμ hs hl hg hm hk h0 h1 h2 in
/-- The kernel's result: the formula at the rows in their given order, with the classes in the kernel's order. -/
theorem kernel_result :
    (Pipeline.afterTail₀ cfgs (dats m) 0 (V0 m) [hostOps1] c main_v74 : FVec Ideal S_ .f32) ix0
      = ((lossOf kp (cat3 X0 X1 X2) (clsK ξ γ μ) : ℝ) : EReal) := by
  have hc := clsK_lt ξ γ μ hξ hγ
  have e := kernel_value m c X0 X1 X2 h0 h1 h2 (tab kp (clsK ξ γ μ)) (arr0_tab m c ξ γ μ kp hξ hγ hμ hs hl hg hm hk)
    (tab_count kp _ hc) (by simp only [tab_keep]; exact wgt_sum kp)
  rw [e]
  have es : sameOf (tab kp (clsK ξ γ μ)) = fun i j => if clsK ξ γ μ i = clsK ξ γ μ j then 1 else 0 :=
    funext fun i => funext fun j => tab_same kp _ hc i j
  simp only [tab_keep, es]
  rfl

end Value

/-! ## The two orders of the rows -/

/-- The renumbering of the rows: the third segment's rows go to their places in the order of the mask. -/
def turn (μ : ℕ → ℕ) (hμ : ∀ k, μ k ≤ 1) (j : Fin 6144) : Fin 6144 :=
  if h : j.val < 4096 then j else ⟨4096 + (place μ hμ ⟨j.val - 4096, by omega⟩).val, by omega⟩

/-- It leaves the first two segments in place. -/
theorem turn_small (μ : ℕ → ℕ) (hμ : ∀ k, μ k ≤ 1) (j : Fin 6144) (h : j.val < 4096) : turn μ hμ j = j := by
  unfold turn; rw [dif_pos h]

/-- A row of the third segment goes to its place. -/
theorem turn_large (μ : ℕ → ℕ) (hμ : ∀ k, μ k ≤ 1) (j : Fin 6144) (h : ¬ j.val < 4096) :
    turn μ hμ j = ⟨4096 + (place μ hμ ⟨j.val - 4096, by omega⟩).val, by omega⟩ := by
  unfold turn; rw [dif_neg h]

/-- It is a permutation. -/
theorem turn_injective (μ : ℕ → ℕ) (hμ : ∀ k, μ k ≤ 1) : Function.Injective (turn μ hμ) := by
  intro a b h
  by_cases ha : a.val < 4096 <;> by_cases hb : b.val < 4096
  · rwa [turn_small μ hμ a ha, turn_small μ hμ b hb] at h
  · rw [turn_small μ hμ a ha, turn_large μ hμ b hb] at h
    have := congrArg Fin.val h; simp at this; omega
  · rw [turn_large μ hμ a ha, turn_small μ hμ b hb] at h
    have := congrArg Fin.val h; simp at this; omega
  · rw [turn_large μ hμ a ha, turn_large μ hμ b hb] at h
    have h1 := congrArg Fin.val h
    have h2 : place μ hμ ⟨a.val - 4096, by omega⟩ = place μ hμ ⟨b.val - 4096, by omega⟩ := Fin.ext (by simpa using h1)
    have h3 := congrArg Fin.val ((place μ hμ).injective h2)
    simp at h3
    exact Fin.ext (by omega)

/-- The renumbering as a permutation. -/
def turnP (μ : ℕ → ℕ) (hμ : ∀ k, μ k ≤ 1) : Equiv.Perm (Fin 6144) :=
  Equiv.ofBijective (turn μ hμ) (Finite.injective_iff_bijective.mp (turn_injective μ hμ))

/-- The formula does not see the renumbering: the kernel's order of the rows and the reference's give one number. -/
theorem loss_turn (kp : Fin 2048 → Bool) (X0 X1 X2 : Fin 2048 → Fin 128 → ℝ) (ξ γ μ : ℕ → ℕ) (hμ : ∀ k, μ k ≤ 1) :
    lossOf kp (cat3 X0 X1 (fun r => X2 (orderOf μ r))) (clsOf ξ γ) = lossOf kp (cat3 X0 X1 X2) (clsK ξ γ μ) := by
  have eY : ∀ j, cat3 X0 X1 (fun r => X2 (orderOf μ r)) (turnP μ hμ j) = cat3 X0 X1 X2 j := fun j => by
    show cat3 X0 X1 (fun r => X2 (orderOf μ r)) (turn μ hμ j) = _
    by_cases h : j.val < 4096
    · rw [turn_small μ hμ j h]
      unfold cat3
      split_ifs <;> rfl
    · rw [turn_large μ hμ j h]
      have e := sorted_posOf μ hμ ⟨j.val - 4096, by omega⟩
      unfold cat3
      rw [dif_neg (by simp; omega), dif_neg (by simp), dif_neg (by omega), dif_neg h]
      refine congrArg X2 (Eq.trans (congrArg (orderOf μ) (Fin.ext ?_)) e)
      simp [place_apply]
  have eC : ∀ j, clsOf ξ γ (turnP μ hμ j) = clsK ξ γ μ j := fun j => by
    show clsOf ξ γ (turn μ hμ j) = _
    unfold clsOf clsK
    by_cases h : j.val < 4096
    · rw [turn_small μ hμ j h]
      unfold cat3
      split_ifs <;> rfl
    · rw [turn_large μ hμ j h]
      unfold cat3
      rw [dif_neg (by simp; omega), dif_neg (by simp), dif_neg (by omega), dif_neg h]
      simp [place_apply]
  unfold lossOf
  refine congrArg (fun t : ℝ => -t / ∑ i, wgt kp i) (Finset.sum_congr rfl fun i _ => congrArg (wgt kp i * ·) ?_)
  rw [← rowLoss_perm _ (cat3 X0 X1 (fun r => X2 (orderOf μ r))) _ (turnP μ hμ) ⟨i.val, by omega⟩ (turn_small μ hμ _ i.isLt)]
  simp only [eY, eC]

end Cert.Loss
-- ==== Proof.Pre.lean ====
module

public import proofs.«01_k».proof.Pre_in_range
public import proofs.«01_k».proof.Proof.KernHostAt
public import Idealize.ShloMosaic.Lib.ReduceAll
public import Idealize.ShloMosaic.Lib.Pointwise

@[expose] public section

set_option maxRecDepth 16384

noncomputable section

namespace Cert.Loss

open Cert.Pre_in_range Idealize.ShloMosaic

/-! ## What the precondition says of the arguments -/

/-- A value whose absolute value is below plus infinity is a real number. -/
theorem real_of_abs (v : Ideal .f32)
    (h : FloatOps.cmpf .olt (FloatOps.absf v) (FloatOps.ofBits .f32 0x7F800000#32 : Ideal .f32) = 1#1) : ∃ r : ℝ, v = (r : EReal) := by
  have ht : Ideal.ofBits .f32 0x7F800000#32 = (⊤ : EReal) := by simp [Ideal.ofBits, Ideal.ieee]
  have hn : ∀ w : Ideal .f32, Ideal.cmp .olt w ⊤ = 1#1 → w ≠ ⊤ := fun w hw e => by
    rw [e] at hw; simp [Ideal.cmp] at hw
  induction v using EReal.rec with
  | bot => exact absurd (show (FloatOps.absf (⊥ : Ideal .f32) : Ideal .f32) = ⊤ by simp [FloatOps.absf]) (hn _ (ht ▸ h))
  | coe r => exact ⟨r, rfl⟩
  | top => exact absurd (show (FloatOps.absf (⊤ : Ideal .f32) : Ideal .f32) = ⊤ by simp [FloatOps.absf]) (hn _ (ht ▸ h))

/-- A word between zero and `n`, read as signed, is the word of a number below `n`. -/
theorem small_of_range (w : BitVec 32) (n : ℕ) (hn : n < 2 ^ 31) (h0 : IntOp.cmpi CmpIPredicate.sge w 0#32 = 1#1)
    (h1 : IntOp.cmpi CmpIPredicate.slt w (BitVec.ofNat 32 n) = 1#1) : w.toNat < n := by
  have e0 := (Scalar.nonneg_iff w).1 h0
  have e1 := IntOp.cmpi_slt.1 h1
  rw [toInt_small n hn, BitVec.toInt_eq_toNat_of_lt e0] at e1
  omega

/-- A word is the word of its number. -/
theorem word_eq (w : BitVec 32) : w = BitVec.ofNat 32 w.toNat := by
  apply BitVec.eq_of_toNat_eq; simp

/-- The signed order of two small words is that of their numbers. -/
theorem le_of_sge (u v : BitVec 32) (hu : u.toNat < 16) (hv : v.toNat < 16) (h : IntOp.cmpi CmpIPredicate.sge u v = 1#1) : v.toNat ≤ u.toNat := by
  rw [word_eq u, word_eq v, cmpi_sge_ofNat _ _ (by omega) (by omega)] at h
  by_contra hc
  rw [decide_eq_false hc] at h
  exact absurd h (by decide)

/-- The numbers of a column of small words, continued by zero. -/
def numOf (x : IVec S2048 32) (k : ℕ) : ℕ := if h : k < 2048 then (x (ix1 ⟨k, h⟩)).toNat else 0

/-- A column of words is the words of its numbers. -/
theorem numOf_at (x : IVec S2048 32) (k : Fin 2048) : x (ix1 k) = BitVec.ofNat 32 (numOf x k.val) := by
  unfold numOf; rw [dif_pos k.isLt]; exact word_eq _

/-- A bound on every word bounds every number. -/
theorem numOf_lt (x : IVec S2048 32) (n : ℕ) (hn : 0 < n) (h : ∀ k : Fin 2048, (x (ix1 k)).toNat < n) (k : ℕ) : numOf x k < n := by
  unfold numOf; split_ifs with hk
  · exact h ⟨k, hk⟩
  · exact hn

variable [Facts]
open Facts

/-- The precondition, taken apart: real features, labels below 80, group ids below 16 in ascending order, a 0/1 mask. -/
theorem pre_parts (a0 : FVec Ideal S2048x128 .f32) (a1 : IVec S2048 32) (a2 : FVec Ideal S2048 .f32) (a3 a4 : FVec Ideal S2048x128 .f32) (a5 a6 : IVec S2048 32)
    (h : Cert.Pre_in_range.fn (F := Ideal) a0 a1 a2 a3 a4 a5 a6 ix0 = 1#1) :
    (∀ q k, ∃ r : ℝ, a0 (ix2 q k) = (r : EReal)) ∧ (∀ q k, ∃ r : ℝ, a3 (ix2 q k) = (r : EReal)) ∧ (∀ q k, ∃ r : ℝ, a4 (ix2 q k) = (r : EReal))
      ∧ (∀ k : Fin 2048, (a1 (ix1 k)).toNat < 80) ∧ (∀ k : Fin 2048, (a5 (ix1 k)).toNat < 16) ∧ (∀ k : Fin 2048, (a6 (ix1 k)).toNat < 2)
      ∧ (∀ k : Fin 2047, (a5 (ix1 ⟨k.val, by omega⟩)).toNat ≤ (a5 (ix1 ⟨1 + k.val, by omega⟩)).toNat) := by
  haveI : Subsingleton S_.Idx := ⟨fun a b => funext fun d => d.elim0⟩
  unfold Cert.Pre_in_range.fn fn_part1 fn_part2 at h
  obtain ⟨h, h6⟩ := IntOp.andi_eq_one.1 h
  obtain ⟨h, hs⟩ := IntOp.andi_eq_one.1 h
  obtain ⟨h, h5⟩ := IntOp.andi_eq_one.1 h
  obtain ⟨h, h1⟩ := IntOp.andi_eq_one.1 h
  obtain ⟨h, h4⟩ := IntOp.andi_eq_one.1 h
  obtain ⟨h0, h3⟩ := IntOp.andi_eq_one.1 h
  have g0 := fun i => Host.reduce_andi_all _ _ _ _ _ h0 i
  have g3 := fun i => Host.reduce_andi_all _ _ _ _ _ h3 i
  have g4 := fun i => Host.reduce_andi_all _ _ _ _ _ h4 i
  have g1 := fun i => IntOp.andi_eq_one.1 (Host.reduce_andi_all _ _ _ _ _ h1 i)
  have g5 := fun i => IntOp.andi_eq_one.1 (Host.reduce_andi_all _ _ _ _ _ h5 i)
  have g6 := fun i => IntOp.andi_eq_one.1 (Host.reduce_andi_all _ _ _ _ _ h6 i)
  have gs := fun i => Host.reduce_andi_all _ _ _ _ _ hs i
  have r5 : ∀ k : Fin 2048, (a5 (ix1 k)).toNat < 16 := fun k => small_of_range _ 16 (by norm_num) (g5 (ix1 k)).1 (g5 (ix1 k)).2
  refine ⟨fun q k => real_of_abs _ (g0 (ix2 q k)), fun q k => real_of_abs _ (g3 (ix2 q k)), fun q k => real_of_abs _ (g4 (ix2 q k)),
    fun k => small_of_range _ 80 (by norm_num) (g1 (ix1 k)).1 (g1 (ix1 k)).2, r5,
    fun k => small_of_range _ 2 (by norm_num) (g6 (ix1 k)).1 (g6 (ix1 k)).2, fun k => ?_⟩
  have e := gs (ix1 k)
  have e1 : extractStridedSlice S2047 ![1] a5 slices_S2048_S2047_1 (ix1 k) = a5 (ix1 ⟨1 + k.val, by omega⟩) := by pointwise
  have e0 : extractStridedSlice S2047 ![0] a5 slices_S2048_S2047_0 (ix1 k) = a5 (ix1 ⟨k.val, by omega⟩) := by pointwise
  have e' : IntOp.cmpi CmpIPredicate.sge (extractStridedSlice S2047 ![1] a5 slices_S2048_S2047_1 (ix1 k)) (extractStridedSlice S2047 ![0] a5 slices_S2048_S2047_0 (ix1 k)) = 1#1 := e
  rw [e1, e0] at e'
  exact le_of_sge _ _ (r5 _) (r5 _) e'

end Cert.Loss
-- ==== Proof.Alg.lean ====
module

public import proofs.«01_k».proof.Defs
public import proofs.«01_k».proof.Proof.Gen.Pre_in_range
public import proofs.«01_k».proof.Proof.Table
public import proofs.«01_k».proof.Proof.Pre
public import Idealize.ShloMosaic.Lib.Claim

@[expose] public section

set_option maxRecDepth 16384

noncomputable section

namespace Cert.Loss

open Idealize.ShloMosaic Idealize.ShloMosaic.TcCoe Idealize.SL.Sem

/-- A sequence ascending step by step ascends. -/
theorem ascending (f : ℕ → ℕ) (n : ℕ) (h : ∀ k, k + 1 < n → f k ≤ f (k + 1)) (a b : ℕ) (hab : a ≤ b) (hb : b < n) : f a ≤ f b := by
  induction b, hab using Nat.le_induction with
  | base => exact le_rfl
  | succ b hab ih => exact (ih (by omega)).trans (h b hb)

/-- From agreeing arguments in range, the reference's result is the kernel's. -/
theorem results_eq (m : (ℓ : Loc Cert.KernelIdeal.nD Cert.KernelIdeal.τ Cert.KernelIdeal.sig) → Buf (Elt Ideal) ℓ) (c : Dev Cert.KernelIdeal.nD)
    (a0 a3 a4 : FVec Ideal Cert.KernelIdeal.S2048x128 .f32) (a1 a5 a6 : IVec Cert.KernelIdeal.S2048 32) (a2 : FVec Ideal Cert.KernelIdeal.S2048 .f32)
    (e0 : m (c, Proc.tc.devRef Cert.KernelIdeal.main_arg0) = a0) (e1 : m (c, Proc.tc.devRef Cert.KernelIdeal.main_arg1) = a1)
    (e2 : m (c, Proc.tc.devRef Cert.KernelIdeal.main_arg2) = a2) (e3 : m (c, Proc.tc.devRef Cert.KernelIdeal.main_arg3) = a3)
    (e4 : m (c, Proc.tc.devRef Cert.KernelIdeal.main_arg4) = a4) (e5 : m (c, Proc.tc.devRef Cert.KernelIdeal.main_arg5) = a5)
    (e6 : m (c, Proc.tc.devRef Cert.KernelIdeal.main_arg6) = a6)
    (hpre : Cert.Pre_in_range.fn (F := Ideal) a0 a1 a2 a3 a4 a5 a6 = fun _ => 1#1) :
    lossT (meanT (shiftR (logitT (allT a0 a3 (gatherT a4 a6)))) offT (sameT a1 a5)) (keepR a2) ix0
      = (Pipeline.afterTail₀ Cert.KernelIdeal.cfgs (Cert.KernelIdeal.Gen.dats m) 0 (Cert.KernelIdeal.Gen.V0 m) [Cert.KernelIdeal.Gen.hostOps1] c
          Cert.KernelIdeal.main_v74 : FVec Ideal Cert.KernelIdeal.S_ .f32) ix0 := by
  obtain ⟨p0, p3, p4, q1, q5, q6, qs⟩ := pre_parts a0 a1 a2 a3 a4 a5 a6 (congrFun hpre ix0)
  choose X0 h0 using p0
  choose X1 h1 using p3
  choose X2 h2 using p4
  have hξ := numOf_lt a1 80 (by norm_num) q1
  have hγ := numOf_lt a5 16 (by norm_num) q5
  have hμ : ∀ k, numOf a6 k ≤ 1 := fun k => Nat.lt_succ_iff.mp (numOf_lt a6 2 (by norm_num) q6 k)
  have hs : ∀ a b, a ≤ b → b < 2048 → numOf a5 a ≤ numOf a5 b := ascending (numOf a5) 2048 fun k hk => by
    have t : (a5 (ix1 ⟨k, by omega⟩)).toNat ≤ (a5 (ix1 ⟨1 + k, by omega⟩)).toNat := qs ⟨k, by omega⟩
    rw [show (⟨1 + k, by omega⟩ : Fin 2048) = ⟨k + 1, hk⟩ from Fin.ext (Nat.add_comm 1 k)] at t
    unfold numOf
    rw [dif_pos (by omega), dif_pos hk]
    exact t
  have hk : ∀ q : Fin 2048, (cmpf .oge a2 (constant Cert.ReferenceIdeal.S2048 .f32 0x3F000000#32)) (ix1 q)
      = BitVec.ofBool (decide ((cmpf .oge a2 (constant Cert.ReferenceIdeal.S2048 .f32 0x3F000000#32)) (ix1 q) = 1#1)) := fun q => bit_eq _
  rw [reference_value a0 a3 a4 a1 a5 a6 a2 X0 X1 X2 (numOf a1) (numOf a5) (numOf a6) h0 h1 h2 hξ hγ hμ (numOf_at a1) (numOf_at a5) (numOf_at a6) _ hk,
    loss_turn _ X0 X1 X2 (numOf a1) (numOf a5) (numOf a6) hμ]
  refine (kernel_result m c (numOf a1) (numOf a5) (numOf a6) _ hξ hγ hμ hs (fun k => ?_) (fun k => ?_) (fun k => ?_) (fun q => ?_) X0 X1 X2
    (fun q k => ?_) (fun q k => ?_) (fun q k => ?_)).symm
  · rw [e1]; exact numOf_at a1 k
  · rw [e5]; exact numOf_at a5 k
  · rw [e6]; exact numOf_at a6 k
  · rw [e2]; exact hk q
  · rw [e0]; exact h0 q k
  · rw [e3]; exact h1 q k
  · rw [e4]; exact h2 q k

/-- From memories that agree on the arguments, in range, both programs run, end with equal results and leave the arguments. -/
theorem algebraic : @Cert.algebraic_KernelIdeal_ReferenceIdeal_pre_in_range Cert.KernelIdeal.Gen.facts Cert.ReferenceIdeal.Gen.facts Cert.Pre_in_range.Gen.facts := by
  intro m g m' g' hpre hagree
  refine ⟨fun c => Pipeline.afterTail₀ Cert.KernelIdeal.cfgs (Cert.KernelIdeal.Gen.dats m) 0 (Cert.KernelIdeal.Gen.V0 m) [Cert.KernelIdeal.Gen.hostOps1] c
    Cert.KernelIdeal.main_v74, ?_, ?_⟩
  · exact θ_run_mono (θ_run_and (Cert.KernelIdeal.Gen.run_main m g) (Cert.KernelIdeal.Gen.unchanged m g))
      fun r h c => ⟨(h.1 c).2 Cert.KernelIdeal.main_v74 (Pipeline.mem_restRefs_of Cert.KernelIdeal.main_v74 (by decide) (by decide)), h.2 c⟩
  · refine θ_run_mono (Cert.ReferenceIdeal.Value.run m' g') fun r h c => ⟨(h c).1.trans ?_, (h c).2⟩
    obtain ⟨e0, e1, e2, e3, e4, e5, e6⟩ := hagree c
    rw [res_eq, e0, e1, e2, e3, e4, e5, e6]
    refine funext fun i => ?_
    rw [show i = ix0 from funext fun d => d.elim0]
    exact results_eq m c _ _ _ _ _ _ _ rfl rfl rfl rfl rfl rfl rfl (hpre c)

end Cert.Loss
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_in_range
public import proofs.«01_k».proof.Proof.Alg
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel runs, and leaves its arguments and the semaphores as they were. -/
theorem quiescent_K : @Cert.quiescent_Kernel Cert.Kernel.Gen.facts := fun m g _ => Cert.Kernel.Gen.frame m g

/-- So does the kernel with its named constants. -/
theorem quiescent_KI : @Cert.quiescent_KernelIdeal Cert.KernelIdeal.Gen.facts := fun m g _ => Cert.KernelIdeal.Gen.frame m g

/-- The same under the precondition. -/
theorem quiescent_KI_pre : @Cert.quiescent_KernelIdeal_pre_in_range Cert.KernelIdeal.Gen.facts Cert.Pre_in_range.Gen.facts :=
  fun m g _ => Cert.KernelIdeal.Gen.frame m g

/-- So does the reference: no operation writes an argument, and it declares no semaphore. -/
theorem quiescent_RI : @Cert.quiescent_ReferenceIdeal Cert.ReferenceIdeal.Gen.facts := by
  intro m g _
  exact θ_run_mono (Cert.ReferenceIdeal.Value.run m g) fun r h => ⟨fun c => (h c).2, sem_eq_zero_of_no_sems (by decide) r.2⟩

/-- The same under the precondition. -/
theorem quiescent_RI_pre : @Cert.quiescent_ReferenceIdeal_pre_in_range Cert.ReferenceIdeal.Gen.facts Cert.Pre_in_range.Gen.facts :=
  fun m g _ => quiescent_RI m g trivial

/-- The three named constants have the values that the table gives them. -/
theorem preserves : Cert.preserves_Kernel_KernelIdeal :=
  ⟨IdealRules.named_const.statement _ _ _ _ _ rfl, IdealRules.named_const.statement _ _ _ _ _ rfl, IdealRules.named_const.statement _ _ _ _ _ rfl⟩

/-- Every claim of the certificate. -/
theorem claim : Cert.Claim := ⟨Cert.Kernel.Gen.facts, Cert.KernelIdeal.Gen.facts, Cert.ReferenceIdeal.Gen.facts, Cert.Pre_in_range.Gen.facts,
  quiescent_K, quiescent_KI, quiescent_KI_pre, quiescent_RI, quiescent_RI_pre, preserves, Cert.Loss.algebraic⟩

end Cert.Proof

end
